-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_starts [hPre_sorted_starts : Cert.Pre_sorted_starts.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_starts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_starts [hPre_sorted_starts : Cert.Pre_sorted_starts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_starts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_sorted_starts [hKernelIdeal : Cert.KernelIdeal.Facts] [hPre_sorted_starts : Cert.Pre_sorted_starts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_starts m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_sorted_starts [hReferenceIdeal : Cert.ReferenceIdeal.Facts] [hPre_sorted_starts : Cert.Pre_sorted_starts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_starts m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_sorted_starts [hKernelIdeal : Cert.KernelIdeal.Facts] [hReferenceIdeal : Cert.ReferenceIdeal.Facts] [hPre_sorted_starts : Cert.Pre_sorted_starts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_starts m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_sorted_starts : Cert.Pre_sorted_starts.Facts),
    quiescent_Kernel (hKernel := hKernel)
    ∧ quiescent_KernelIdeal (hKernelIdeal := hKernelIdeal)
    ∧ quiescent_KernelIdeal_pre_sorted_starts (hKernelIdeal := hKernelIdeal) (hPre_sorted_starts := hPre_sorted_starts)
    ∧ quiescent_ReferenceIdeal (hReferenceIdeal := hReferenceIdeal)
    ∧ quiescent_ReferenceIdeal_pre_sorted_starts (hReferenceIdeal := hReferenceIdeal) (hPre_sorted_starts := hPre_sorted_starts)
    ∧ preserves_Kernel_KernelIdeal
    ∧ algebraic_KernelIdeal_ReferenceIdeal_pre_sorted_starts (hKernelIdeal := hKernelIdeal) (hReferenceIdeal := hReferenceIdeal) (hPre_sorted_starts := hPre_sorted_starts)
-- ==== Pre_sorted_starts.lean ====
abbrev S2x4096x3584 : Shape := ⟨3, ![2, 4096, 3584]⟩
abbrev S2x4096x448 : Shape := ⟨3, ![2, 4096, 448]⟩
abbrev S4 : Shape := ⟨1, ![4]⟩
abbrev S2304x3584 : Shape := ⟨2, ![2304, 3584]⟩
abbrev S2304x448 : Shape := ⟨2, ![2304, 448]⟩
abbrev S1 : Shape := ⟨1, ![1]⟩
abbrev S3 : Shape := ⟨1, ![3]⟩

class Facts : Prop where
  slices_S4_S3_0 : S4.Slices ![0] S3
  slices_S4_S3_1 : S4.Slices ![1] S3

variable [Facts]

def fn {F : FTy → Type} [FloatOps F] (main_arg0 : IVec S2x4096x3584 8) (main_arg1 : FVec F S2x4096x448 .fp8e4m3) (main_arg2 : FVec F S4 .f32) (main_arg3 : IVec S2304x3584 8) (main_arg4 : FVec F S2304x448 .fp8e4m3) (main_arg5 : FVec F S1 .f32) (main_arg6 : IVec S4 32) : IVec S3 1 :=
  let main_v0 : IVec S3 32 := (extractStridedSlice S3 ![0] · slices_S4_S3_0) main_arg6
  let main_v1 : IVec S3 32 := (extractStridedSlice S3 ![1] · slices_S4_S3_1) main_arg6
  let main_v2 : IVec S3 1 := cmpi .sle main_v0 main_v1
  main_v2
-- ==== Kernel.lean ====
abbrev S2x4096x3584 : Shape := ⟨3, ![2, 4096, 3584]⟩
abbrev S2x4096x448 : Shape := ⟨3, ![2, 4096, 448]⟩
abbrev S4 : Shape := ⟨1, ![4]⟩
abbrev S2304x3584 : Shape := ⟨2, ![2304, 3584]⟩
abbrev S2304x448 : Shape := ⟨2, ![2304, 448]⟩
abbrev S1 : Shape := ⟨1, ![1]⟩
abbrev S8192x3584 : Shape := ⟨2, ![8192, 3584]⟩
abbrev S8192x448 : Shape := ⟨2, ![8192, 448]⟩
abbrev S8192x2304 : Shape := ⟨2, ![8192, 2304]⟩
abbrev S512x3584 : Shape := ⟨2, ![512, 3584]⟩
abbrev S512x448 : Shape := ⟨2, ![512, 448]⟩
abbrev S512x2304 : Shape := ⟨2, ![512, 2304]⟩
abbrev S2304x7168 : Shape := ⟨2, ![2304, 7168]⟩
abbrev S512x7168 : Shape := ⟨2, ![512, 7168]⟩
abbrev S32x128 : Shape := ⟨2, ![32, 128]⟩
abbrev S32x128x1 : Shape := ⟨3, ![32, 128, 1]⟩
abbrev S8x128 : Shape := ⟨2, ![8, 128]⟩
abbrev S32x64 : Shape := ⟨2, ![32, 64]⟩
abbrev S512x1 : Shape := ⟨2, ![512, 1]⟩

abbrev nBuf : Space → Nat
  | .hbm => 10
  | .vmem => 10
  | .smem => 3
  | _ => 0

abbrev bufTy : (tb : Table) → Fin (tcTables nBuf tb) → BufTy
  | .hbm, ⟨0, _⟩ => ⟨S2x4096x3584, .i8⟩
  | .hbm, ⟨1, _⟩ => ⟨S2x4096x448, .fp8e4m3⟩
  | .hbm, ⟨2, _⟩ => ⟨S4, .f32⟩
  | .hbm, ⟨3, _⟩ => ⟨S2304x3584, .i8⟩
  | .hbm, ⟨4, _⟩ => ⟨S2304x448, .fp8e4m3⟩
  | .hbm, ⟨5, _⟩ => ⟨S1, .f32⟩
  | .hbm, ⟨6, _⟩ => ⟨S4, .i32⟩
  | .hbm, ⟨7, _⟩ => ⟨S8192x3584, .i8⟩
  | .hbm, ⟨8, _⟩ => ⟨S8192x448, .fp8e4m3⟩
  | .hbm, ⟨9, _⟩ => ⟨S8192x2304, .bf16⟩
  | .local _ .vmem, ⟨0, _⟩ => ⟨S512x3584, .i8⟩
  | .local _ .vmem, ⟨1, _⟩ => ⟨S512x3584, .i8⟩
  | .local _ .vmem, ⟨2, _⟩ => ⟨S512x448, .fp8e4m3⟩
  | .local _ .vmem, ⟨3, _⟩ => ⟨S512x448, .fp8e4m3⟩
  | .local _ .vmem, ⟨4, _⟩ => ⟨S2304x3584, .i8⟩
  | .local _ .vmem, ⟨5, _⟩ => ⟨S2304x448, .fp8e4m3⟩
  | .local _ .vmem, ⟨6, _⟩ => ⟨S512x2304, .bf16⟩
  | .local _ .vmem, ⟨7, _⟩ => ⟨S512x2304, .bf16⟩
  | .local _ .vmem, ⟨8, _⟩ => ⟨S2304x7168, .bf16⟩
  | .local _ .vmem, ⟨9, _⟩ => ⟨S512x7168, .bf16⟩
  | .local _ .smem, ⟨0, _⟩ => ⟨S4, .i32⟩
  | .local _ .smem, ⟨1, _⟩ => ⟨S4, .f32⟩
  | .local _ .smem, ⟨2, _⟩ => ⟨S1, .f32⟩
  | _, _ => ⟨S2x4096x3584, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg7_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_33 : BitVec 32 := 0#32
  let c72_i32 : BitVec 32 := 72#32
  let v99 : BitVec 32 := Scalar.addi c0_i32_33 c72_i32
  let c1_i32_34 : BitVec 32 := 1#32
  ⟨c0_i32_33, v99, c1_i32_34⟩
def k0_mult1 (k0_t1 : Fin k0_t1_loop.trips) : BitVec 32 :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  v101
def k0_mult2 (k0_t1 : Fin k0_t1_loop.trips) : BitVec 32 :=
  let c0_i32_33 : BitVec 32 := 0#32
  let c1_i32_34 : BitVec 32 := 1#32
  let arg11 : BitVec 32 := Scf.iv c0_i32_33 c1_i32_34 k0_t1
  let c32_i32_37 : BitVec 32 := 32#32
  let v103 : BitVec 32 := Scalar.muli arg11 c32_i32_37
  v103
def k0_off1 (k0_t1 : Fin k0_t1_loop.trips) : Fin 2 → Nat :=
  let c0_i32_33 : BitVec 32 := 0#32
  let c1_i32_34 : BitVec 32 := 1#32
  let arg11 : BitVec 32 := Scf.iv c0_i32_33 c1_i32_34 k0_t1
  let c32_i32_37 : BitVec 32 := 32#32
  let v103 : BitVec 32 := Scalar.muli arg11 c32_i32_37
  let v104 : BitVec 32 := v103
  let v105 : Index := Scalar.indexCast v104
  let c0_38 : Index := 0#32
  ![v105.toNat, 0]
def k0_off2 (k0_t1 : Fin k0_t1_loop.trips) : Fin 2 → Nat :=
  let c0_i32_33 : BitVec 32 := 0#32
  let c1_i32_34 : BitVec 32 := 1#32
  let arg11 : BitVec 32 := Scf.iv c0_i32_33 c1_i32_34 k0_t1
  let c32_i32_37 : BitVec 32 := 32#32
  let v103 : BitVec 32 := Scalar.muli arg11 c32_i32_37
  let v104 : BitVec 32 := v103
  let v119 : Index := Scalar.indexCast v104
  let c0_41 : Index := 0#32
  ![v119.toNat, 0]
def k0_off3 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v143 : Index := Scalar.indexCast v102
  let c0_43 : Index := 0#32
  ![v143.toNat, 0]
def k0_off4 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v148 : Index := Scalar.indexCast v102
  let c3584 : Index := 3584#32
  ![v148.toNat, 3584]
def k0_off5 (k0_t1 : Fin k0_t1_loop.trips) : Fin 2 → Nat :=
  let c0_i32_33 : BitVec 32 := 0#32
  let c1_i32_34 : BitVec 32 := 1#32
  let arg11 : BitVec 32 := Scf.iv c0_i32_33 c1_i32_34 k0_t1
  let c32_i32_37 : BitVec 32 := 32#32
  let v103 : BitVec 32 := Scalar.muli arg11 c32_i32_37
  let v104 : BitVec 32 := v103
  let v163 : Index := Scalar.indexCast v104
  let c128 : Index := 128#32
  ![v163.toNat, 128]
def k0_off6 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v187 : Index := Scalar.indexCast v102
  let c128_54 : Index := 128#32
  ![v187.toNat, 128]
def k0_off7 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v192 : Index := Scalar.indexCast v102
  let c3712 : Index := 3712#32
  ![v192.toNat, 3712]
def k0_off8 (k0_t1 : Fin k0_t1_loop.trips) : Fin 2 → Nat :=
  let c0_i32_33 : BitVec 32 := 0#32
  let c1_i32_34 : BitVec 32 := 1#32
  let arg11 : BitVec 32 := Scf.iv c0_i32_33 c1_i32_34 k0_t1
  let c32_i32_37 : BitVec 32 := 32#32
  let v103 : BitVec 32 := Scalar.muli arg11 c32_i32_37
  let v104 : BitVec 32 := v103
  let v207 : Index := Scalar.indexCast v104
  let c256 : Index := 256#32
  ![v207.toNat, 256]
def k0_off9 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v231 : Index := Scalar.indexCast v102
  let c256_65 : Index := 256#32
  ![v231.toNat, 256]
def k0_off10 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v236 : Index := Scalar.indexCast v102
  let c3840 : Index := 3840#32
  ![v236.toNat, 3840]
def k0_off11 (k0_t1 : Fin k0_t1_loop.trips) : Fin 2 → Nat :=
  let c0_i32_33 : BitVec 32 := 0#32
  let c1_i32_34 : BitVec 32 := 1#32
  let arg11 : BitVec 32 := Scf.iv c0_i32_33 c1_i32_34 k0_t1
  let c32_i32_37 : BitVec 32 := 32#32
  let v103 : BitVec 32 := Scalar.muli arg11 c32_i32_37
  let v104 : BitVec 32 := v103
  let v251 : Index := Scalar.indexCast v104
  let c384 : Index := 384#32
  ![v251.toNat, 384]
def k0_off12 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v275 : Index := Scalar.indexCast v102
  let c384_75 : Index := 384#32
  ![v275.toNat, 384]
def k0_off13 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v280 : Index := Scalar.indexCast v102
  let c3968 : Index := 3968#32
  ![v280.toNat, 3968]
def k0_off14 (k0_t1 : Fin k0_t1_loop.trips) : Fin 2 → Nat :=
  let c0_i32_33 : BitVec 32 := 0#32
  let c1_i32_34 : BitVec 32 := 1#32
  let arg11 : BitVec 32 := Scf.iv c0_i32_33 c1_i32_34 k0_t1
  let c32_i32_37 : BitVec 32 := 32#32
  let v103 : BitVec 32 := Scalar.muli arg11 c32_i32_37
  let v104 : BitVec 32 := v103
  let v295 : Index := Scalar.indexCast v104
  let c512 : Index := 512#32
  ![v295.toNat, 512]
def k0_off15 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v319 : Index := Scalar.indexCast v102
  let c512_85 : Index := 512#32
  ![v319.toNat, 512]
def k0_off16 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v324 : Index := Scalar.indexCast v102
  let c4096 : Index := 4096#32
  ![v324.toNat, 4096]
def k0_off17 (k0_t1 : Fin k0_t1_loop.trips) : Fin 2 → Nat :=
  let c0_i32_33 : BitVec 32 := 0#32
  let c1_i32_34 : BitVec 32 := 1#32
  let arg11 : BitVec 32 := Scf.iv c0_i32_33 c1_i32_34 k0_t1
  let c32_i32_37 : BitVec 32 := 32#32
  let v103 : BitVec 32 := Scalar.muli arg11 c32_i32_37
  let v104 : BitVec 32 := v103
  let v339 : Index := Scalar.indexCast v104
  let c640 : Index := 640#32
  ![v339.toNat, 640]
def k0_off18 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v363 : Index := Scalar.indexCast v102
  let c640_95 : Index := 640#32
  ![v363.toNat, 640]
def k0_off19 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v368 : Index := Scalar.indexCast v102
  let c4224 : Index := 4224#32
  ![v368.toNat, 4224]
def k0_off20 (k0_t1 : Fin k0_t1_loop.trips) : Fin 2 → Nat :=
  let c0_i32_33 : BitVec 32 := 0#32
  let c1_i32_34 : BitVec 32 := 1#32
  let arg11 : BitVec 32 := Scf.iv c0_i32_33 c1_i32_34 k0_t1
  let c32_i32_37 : BitVec 32 := 32#32
  let v103 : BitVec 32 := Scalar.muli arg11 c32_i32_37
  let v104 : BitVec 32 := v103
  let v383 : Index := Scalar.indexCast v104
  let c768 : Index := 768#32
  ![v383.toNat, 768]
def k0_off21 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v407 : Index := Scalar.indexCast v102
  let c768_105 : Index := 768#32
  ![v407.toNat, 768]
def k0_off22 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v412 : Index := Scalar.indexCast v102
  let c4352 : Index := 4352#32
  ![v412.toNat, 4352]
def k0_off23 (k0_t1 : Fin k0_t1_loop.trips) : Fin 2 → Nat :=
  let c0_i32_33 : BitVec 32 := 0#32
  let c1_i32_34 : BitVec 32 := 1#32
  let arg11 : BitVec 32 := Scf.iv c0_i32_33 c1_i32_34 k0_t1
  let c32_i32_37 : BitVec 32 := 32#32
  let v103 : BitVec 32 := Scalar.muli arg11 c32_i32_37
  let v104 : BitVec 32 := v103
  let v427 : Index := Scalar.indexCast v104
  let c896 : Index := 896#32
  ![v427.toNat, 896]
def k0_off24 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v451 : Index := Scalar.indexCast v102
  let c896_115 : Index := 896#32
  ![v451.toNat, 896]
def k0_off25 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v456 : Index := Scalar.indexCast v102
  let c4480 : Index := 4480#32
  ![v456.toNat, 4480]
def k0_off26 (k0_t1 : Fin k0_t1_loop.trips) : Fin 2 → Nat :=
  let c0_i32_33 : BitVec 32 := 0#32
  let c1_i32_34 : BitVec 32 := 1#32
  let arg11 : BitVec 32 := Scf.iv c0_i32_33 c1_i32_34 k0_t1
  let c32_i32_37 : BitVec 32 := 32#32
  let v103 : BitVec 32 := Scalar.muli arg11 c32_i32_37
  let v104 : BitVec 32 := v103
  let v460 : Index := Scalar.indexCast v104
  let c128_116 : Index := 128#32
  ![v460.toNat, 128]
def k0_off27 (k0_t1 : Fin k0_t1_loop.trips) : Fin 2 → Nat :=
  let c0_i32_33 : BitVec 32 := 0#32
  let c1_i32_34 : BitVec 32 := 1#32
  let arg11 : BitVec 32 := Scf.iv c0_i32_33 c1_i32_34 k0_t1
  let c32_i32_37 : BitVec 32 := 32#32
  let v103 : BitVec 32 := Scalar.muli arg11 c32_i32_37
  let v104 : BitVec 32 := v103
  let v474 : Index := Scalar.indexCast v104
  let c1024 : Index := 1024#32
  ![v474.toNat, 1024]
def k0_off28 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v498 : Index := Scalar.indexCast v102
  let c1024_127 : Index := 1024#32
  ![v498.toNat, 1024]
def k0_off29 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v503 : Index := Scalar.indexCast v102
  let c4608 : Index := 4608#32
  ![v503.toNat, 4608]
def k0_off30 (k0_t1 : Fin k0_t1_loop.trips) : Fin 2 → Nat :=
  let c0_i32_33 : BitVec 32 := 0#32
  let c1_i32_34 : BitVec 32 := 1#32
  let arg11 : BitVec 32 := Scf.iv c0_i32_33 c1_i32_34 k0_t1
  let c32_i32_37 : BitVec 32 := 32#32
  let v103 : BitVec 32 := Scalar.muli arg11 c32_i32_37
  let v104 : BitVec 32 := v103
  let v518 : Index := Scalar.indexCast v104
  let c1152 : Index := 1152#32
  ![v518.toNat, 1152]
def k0_off31 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v542 : Index := Scalar.indexCast v102
  let c1152_138 : Index := 1152#32
  ![v542.toNat, 1152]
def k0_off32 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v547 : Index := Scalar.indexCast v102
  let c4736 : Index := 4736#32
  ![v547.toNat, 4736]
def k0_off33 (k0_t1 : Fin k0_t1_loop.trips) : Fin 2 → Nat :=
  let c0_i32_33 : BitVec 32 := 0#32
  let c1_i32_34 : BitVec 32 := 1#32
  let arg11 : BitVec 32 := Scf.iv c0_i32_33 c1_i32_34 k0_t1
  let c32_i32_37 : BitVec 32 := 32#32
  let v103 : BitVec 32 := Scalar.muli arg11 c32_i32_37
  let v104 : BitVec 32 := v103
  let v562 : Index := Scalar.indexCast v104
  let c1280 : Index := 1280#32
  ![v562.toNat, 1280]
def k0_off34 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v586 : Index := Scalar.indexCast v102
  let c1280_149 : Index := 1280#32
  ![v586.toNat, 1280]
def k0_off35 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v591 : Index := Scalar.indexCast v102
  let c4864 : Index := 4864#32
  ![v591.toNat, 4864]
def k0_off36 (k0_t1 : Fin k0_t1_loop.trips) : Fin 2 → Nat :=
  let c0_i32_33 : BitVec 32 := 0#32
  let c1_i32_34 : BitVec 32 := 1#32
  let arg11 : BitVec 32 := Scf.iv c0_i32_33 c1_i32_34 k0_t1
  let c32_i32_37 : BitVec 32 := 32#32
  let v103 : BitVec 32 := Scalar.muli arg11 c32_i32_37
  let v104 : BitVec 32 := v103
  let v606 : Index := Scalar.indexCast v104
  let c1408 : Index := 1408#32
  ![v606.toNat, 1408]
def k0_off37 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v630 : Index := Scalar.indexCast v102
  let c1408_160 : Index := 1408#32
  ![v630.toNat, 1408]
def k0_off38 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v635 : Index := Scalar.indexCast v102
  let c4992 : Index := 4992#32
  ![v635.toNat, 4992]
def k0_off39 (k0_t1 : Fin k0_t1_loop.trips) : Fin 2 → Nat :=
  let c0_i32_33 : BitVec 32 := 0#32
  let c1_i32_34 : BitVec 32 := 1#32
  let arg11 : BitVec 32 := Scf.iv c0_i32_33 c1_i32_34 k0_t1
  let c32_i32_37 : BitVec 32 := 32#32
  let v103 : BitVec 32 := Scalar.muli arg11 c32_i32_37
  let v104 : BitVec 32 := v103
  let v650 : Index := Scalar.indexCast v104
  let c1536 : Index := 1536#32
  ![v650.toNat, 1536]
def k0_off40 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v674 : Index := Scalar.indexCast v102
  let c1536_171 : Index := 1536#32
  ![v674.toNat, 1536]
def k0_off41 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v679 : Index := Scalar.indexCast v102
  let c5120 : Index := 5120#32
  ![v679.toNat, 5120]
def k0_off42 (k0_t1 : Fin k0_t1_loop.trips) : Fin 2 → Nat :=
  let c0_i32_33 : BitVec 32 := 0#32
  let c1_i32_34 : BitVec 32 := 1#32
  let arg11 : BitVec 32 := Scf.iv c0_i32_33 c1_i32_34 k0_t1
  let c32_i32_37 : BitVec 32 := 32#32
  let v103 : BitVec 32 := Scalar.muli arg11 c32_i32_37
  let v104 : BitVec 32 := v103
  let v694 : Index := Scalar.indexCast v104
  let c1664 : Index := 1664#32
  ![v694.toNat, 1664]
def k0_off43 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v718 : Index := Scalar.indexCast v102
  let c1664_182 : Index := 1664#32
  ![v718.toNat, 1664]
def k0_off44 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v723 : Index := Scalar.indexCast v102
  let c5248 : Index := 5248#32
  ![v723.toNat, 5248]
def k0_off45 (k0_t1 : Fin k0_t1_loop.trips) : Fin 2 → Nat :=
  let c0_i32_33 : BitVec 32 := 0#32
  let c1_i32_34 : BitVec 32 := 1#32
  let arg11 : BitVec 32 := Scf.iv c0_i32_33 c1_i32_34 k0_t1
  let c32_i32_37 : BitVec 32 := 32#32
  let v103 : BitVec 32 := Scalar.muli arg11 c32_i32_37
  let v104 : BitVec 32 := v103
  let v738 : Index := Scalar.indexCast v104
  let c1792 : Index := 1792#32
  ![v738.toNat, 1792]
def k0_off46 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v762 : Index := Scalar.indexCast v102
  let c1792_193 : Index := 1792#32
  ![v762.toNat, 1792]
def k0_off47 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v767 : Index := Scalar.indexCast v102
  let c5376 : Index := 5376#32
  ![v767.toNat, 5376]
def k0_off48 (k0_t1 : Fin k0_t1_loop.trips) : Fin 2 → Nat :=
  let c0_i32_33 : BitVec 32 := 0#32
  let c1_i32_34 : BitVec 32 := 1#32
  let arg11 : BitVec 32 := Scf.iv c0_i32_33 c1_i32_34 k0_t1
  let c32_i32_37 : BitVec 32 := 32#32
  let v103 : BitVec 32 := Scalar.muli arg11 c32_i32_37
  let v104 : BitVec 32 := v103
  let v782 : Index := Scalar.indexCast v104
  let c1920 : Index := 1920#32
  ![v782.toNat, 1920]
def k0_off49 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v806 : Index := Scalar.indexCast v102
  let c1920_204 : Index := 1920#32
  ![v806.toNat, 1920]
def k0_off50 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v811 : Index := Scalar.indexCast v102
  let c5504 : Index := 5504#32
  ![v811.toNat, 5504]
def k0_off51 (k0_t1 : Fin k0_t1_loop.trips) : Fin 2 → Nat :=
  let c0_i32_33 : BitVec 32 := 0#32
  let c1_i32_34 : BitVec 32 := 1#32
  let arg11 : BitVec 32 := Scf.iv c0_i32_33 c1_i32_34 k0_t1
  let c32_i32_37 : BitVec 32 := 32#32
  let v103 : BitVec 32 := Scalar.muli arg11 c32_i32_37
  let v104 : BitVec 32 := v103
  let v815 : Index := Scalar.indexCast v104
  let c256_205 : Index := 256#32
  ![v815.toNat, 256]
def k0_off52 (k0_t1 : Fin k0_t1_loop.trips) : Fin 2 → Nat :=
  let c0_i32_33 : BitVec 32 := 0#32
  let c1_i32_34 : BitVec 32 := 1#32
  let arg11 : BitVec 32 := Scf.iv c0_i32_33 c1_i32_34 k0_t1
  let c32_i32_37 : BitVec 32 := 32#32
  let v103 : BitVec 32 := Scalar.muli arg11 c32_i32_37
  let v104 : BitVec 32 := v103
  let v829 : Index := Scalar.indexCast v104
  let c2048 : Index := 2048#32
  ![v829.toNat, 2048]
def k0_off53 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v853 : Index := Scalar.indexCast v102
  let c2048_216 : Index := 2048#32
  ![v853.toNat, 2048]
def k0_off54 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v858 : Index := Scalar.indexCast v102
  let c5632 : Index := 5632#32
  ![v858.toNat, 5632]
def k0_off55 (k0_t1 : Fin k0_t1_loop.trips) : Fin 2 → Nat :=
  let c0_i32_33 : BitVec 32 := 0#32
  let c1_i32_34 : BitVec 32 := 1#32
  let arg11 : BitVec 32 := Scf.iv c0_i32_33 c1_i32_34 k0_t1
  let c32_i32_37 : BitVec 32 := 32#32
  let v103 : BitVec 32 := Scalar.muli arg11 c32_i32_37
  let v104 : BitVec 32 := v103
  let v873 : Index := Scalar.indexCast v104
  let c2176 : Index := 2176#32
  ![v873.toNat, 2176]
def k0_off56 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v897 : Index := Scalar.indexCast v102
  let c2176_227 : Index := 2176#32
  ![v897.toNat, 2176]
def k0_off57 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v902 : Index := Scalar.indexCast v102
  let c5760 : Index := 5760#32
  ![v902.toNat, 5760]
def k0_off58 (k0_t1 : Fin k0_t1_loop.trips) : Fin 2 → Nat :=
  let c0_i32_33 : BitVec 32 := 0#32
  let c1_i32_34 : BitVec 32 := 1#32
  let arg11 : BitVec 32 := Scf.iv c0_i32_33 c1_i32_34 k0_t1
  let c32_i32_37 : BitVec 32 := 32#32
  let v103 : BitVec 32 := Scalar.muli arg11 c32_i32_37
  let v104 : BitVec 32 := v103
  let v917 : Index := Scalar.indexCast v104
  let c2304 : Index := 2304#32
  ![v917.toNat, 2304]
def k0_off59 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v941 : Index := Scalar.indexCast v102
  let c2304_238 : Index := 2304#32
  ![v941.toNat, 2304]
def k0_off60 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v946 : Index := Scalar.indexCast v102
  let c5888 : Index := 5888#32
  ![v946.toNat, 5888]
def k0_off61 (k0_t1 : Fin k0_t1_loop.trips) : Fin 2 → Nat :=
  let c0_i32_33 : BitVec 32 := 0#32
  let c1_i32_34 : BitVec 32 := 1#32
  let arg11 : BitVec 32 := Scf.iv c0_i32_33 c1_i32_34 k0_t1
  let c32_i32_37 : BitVec 32 := 32#32
  let v103 : BitVec 32 := Scalar.muli arg11 c32_i32_37
  let v104 : BitVec 32 := v103
  let v961 : Index := Scalar.indexCast v104
  let c2432 : Index := 2432#32
  ![v961.toNat, 2432]
def k0_off62 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v985 : Index := Scalar.indexCast v102
  let c2432_249 : Index := 2432#32
  ![v985.toNat, 2432]
def k0_off63 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v990 : Index := Scalar.indexCast v102
  let c6016 : Index := 6016#32
  ![v990.toNat, 6016]
def k0_off64 (k0_t1 : Fin k0_t1_loop.trips) : Fin 2 → Nat :=
  let c0_i32_33 : BitVec 32 := 0#32
  let c1_i32_34 : BitVec 32 := 1#32
  let arg11 : BitVec 32 := Scf.iv c0_i32_33 c1_i32_34 k0_t1
  let c32_i32_37 : BitVec 32 := 32#32
  let v103 : BitVec 32 := Scalar.muli arg11 c32_i32_37
  let v104 : BitVec 32 := v103
  let v1005 : Index := Scalar.indexCast v104
  let c2560 : Index := 2560#32
  ![v1005.toNat, 2560]
def k0_off65 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v1029 : Index := Scalar.indexCast v102
  let c2560_260 : Index := 2560#32
  ![v1029.toNat, 2560]
def k0_off66 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v1034 : Index := Scalar.indexCast v102
  let c6144 : Index := 6144#32
  ![v1034.toNat, 6144]
def k0_off67 (k0_t1 : Fin k0_t1_loop.trips) : Fin 2 → Nat :=
  let c0_i32_33 : BitVec 32 := 0#32
  let c1_i32_34 : BitVec 32 := 1#32
  let arg11 : BitVec 32 := Scf.iv c0_i32_33 c1_i32_34 k0_t1
  let c32_i32_37 : BitVec 32 := 32#32
  let v103 : BitVec 32 := Scalar.muli arg11 c32_i32_37
  let v104 : BitVec 32 := v103
  let v1049 : Index := Scalar.indexCast v104
  let c2688 : Index := 2688#32
  ![v1049.toNat, 2688]
def k0_off68 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v1073 : Index := Scalar.indexCast v102
  let c2688_271 : Index := 2688#32
  ![v1073.toNat, 2688]
def k0_off69 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v1078 : Index := Scalar.indexCast v102
  let c6272 : Index := 6272#32
  ![v1078.toNat, 6272]
def k0_off70 (k0_t1 : Fin k0_t1_loop.trips) : Fin 2 → Nat :=
  let c0_i32_33 : BitVec 32 := 0#32
  let c1_i32_34 : BitVec 32 := 1#32
  let arg11 : BitVec 32 := Scf.iv c0_i32_33 c1_i32_34 k0_t1
  let c32_i32_37 : BitVec 32 := 32#32
  let v103 : BitVec 32 := Scalar.muli arg11 c32_i32_37
  let v104 : BitVec 32 := v103
  let v1093 : Index := Scalar.indexCast v104
  let c2816 : Index := 2816#32
  ![v1093.toNat, 2816]
def k0_off71 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v1117 : Index := Scalar.indexCast v102
  let c2816_282 : Index := 2816#32
  ![v1117.toNat, 2816]
def k0_off72 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v1122 : Index := Scalar.indexCast v102
  let c6400 : Index := 6400#32
  ![v1122.toNat, 6400]
def k0_off73 (k0_t1 : Fin k0_t1_loop.trips) : Fin 2 → Nat :=
  let c0_i32_33 : BitVec 32 := 0#32
  let c1_i32_34 : BitVec 32 := 1#32
  let arg11 : BitVec 32 := Scf.iv c0_i32_33 c1_i32_34 k0_t1
  let c32_i32_37 : BitVec 32 := 32#32
  let v103 : BitVec 32 := Scalar.muli arg11 c32_i32_37
  let v104 : BitVec 32 := v103
  let v1137 : Index := Scalar.indexCast v104
  let c2944 : Index := 2944#32
  ![v1137.toNat, 2944]
def k0_off74 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v1161 : Index := Scalar.indexCast v102
  let c2944_293 : Index := 2944#32
  ![v1161.toNat, 2944]
def k0_off75 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v1166 : Index := Scalar.indexCast v102
  let c6528 : Index := 6528#32
  ![v1166.toNat, 6528]
def k0_off76 (k0_t1 : Fin k0_t1_loop.trips) : Fin 2 → Nat :=
  let c0_i32_33 : BitVec 32 := 0#32
  let c1_i32_34 : BitVec 32 := 1#32
  let arg11 : BitVec 32 := Scf.iv c0_i32_33 c1_i32_34 k0_t1
  let c32_i32_37 : BitVec 32 := 32#32
  let v103 : BitVec 32 := Scalar.muli arg11 c32_i32_37
  let v104 : BitVec 32 := v103
  let v1170 : Index := Scalar.indexCast v104
  let c384_294 : Index := 384#32
  ![v1170.toNat, 384]
def k0_off77 (k0_t1 : Fin k0_t1_loop.trips) : Fin 2 → Nat :=
  let c0_i32_33 : BitVec 32 := 0#32
  let c1_i32_34 : BitVec 32 := 1#32
  let arg11 : BitVec 32 := Scf.iv c0_i32_33 c1_i32_34 k0_t1
  let c32_i32_37 : BitVec 32 := 32#32
  let v103 : BitVec 32 := Scalar.muli arg11 c32_i32_37
  let v104 : BitVec 32 := v103
  let v1185 : Index := Scalar.indexCast v104
  let c3072 : Index := 3072#32
  ![v1185.toNat, 3072]
def k0_off78 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v1209 : Index := Scalar.indexCast v102
  let c3072_305 : Index := 3072#32
  ![v1209.toNat, 3072]
def k0_off79 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v1214 : Index := Scalar.indexCast v102
  let c6656 : Index := 6656#32
  ![v1214.toNat, 6656]
def k0_off80 (k0_t1 : Fin k0_t1_loop.trips) : Fin 2 → Nat :=
  let c0_i32_33 : BitVec 32 := 0#32
  let c1_i32_34 : BitVec 32 := 1#32
  let arg11 : BitVec 32 := Scf.iv c0_i32_33 c1_i32_34 k0_t1
  let c32_i32_37 : BitVec 32 := 32#32
  let v103 : BitVec 32 := Scalar.muli arg11 c32_i32_37
  let v104 : BitVec 32 := v103
  let v1229 : Index := Scalar.indexCast v104
  let c3200 : Index := 3200#32
  ![v1229.toNat, 3200]
def k0_off81 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v1253 : Index := Scalar.indexCast v102
  let c3200_316 : Index := 3200#32
  ![v1253.toNat, 3200]
def k0_off82 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v1258 : Index := Scalar.indexCast v102
  let c6784 : Index := 6784#32
  ![v1258.toNat, 6784]
def k0_off83 (k0_t1 : Fin k0_t1_loop.trips) : Fin 2 → Nat :=
  let c0_i32_33 : BitVec 32 := 0#32
  let c1_i32_34 : BitVec 32 := 1#32
  let arg11 : BitVec 32 := Scf.iv c0_i32_33 c1_i32_34 k0_t1
  let c32_i32_37 : BitVec 32 := 32#32
  let v103 : BitVec 32 := Scalar.muli arg11 c32_i32_37
  let v104 : BitVec 32 := v103
  let v1273 : Index := Scalar.indexCast v104
  let c3328 : Index := 3328#32
  ![v1273.toNat, 3328]
def k0_off84 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v1297 : Index := Scalar.indexCast v102
  let c3328_327 : Index := 3328#32
  ![v1297.toNat, 3328]
def k0_off85 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v1302 : Index := Scalar.indexCast v102
  let c6912 : Index := 6912#32
  ![v1302.toNat, 6912]
def k0_off86 (k0_t1 : Fin k0_t1_loop.trips) : Fin 2 → Nat :=
  let c0_i32_33 : BitVec 32 := 0#32
  let c1_i32_34 : BitVec 32 := 1#32
  let arg11 : BitVec 32 := Scf.iv c0_i32_33 c1_i32_34 k0_t1
  let c32_i32_37 : BitVec 32 := 32#32
  let v103 : BitVec 32 := Scalar.muli arg11 c32_i32_37
  let v104 : BitVec 32 := v103
  let v1317 : Index := Scalar.indexCast v104
  let c3456 : Index := 3456#32
  ![v1317.toNat, 3456]
def k0_off87 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v1341 : Index := Scalar.indexCast v102
  let c3456_338 : Index := 3456#32
  ![v1341.toNat, 3456]
def k0_off88 (k0_t1 : Fin k0_t1_loop.trips) : Fin 2 → Nat :=
  let c0_i32_36 : BitVec 32 := 0#32
  let c0_i32_33 : BitVec 32 := 0#32
  let c1_i32_34 : BitVec 32 := 1#32
  let arg11 : BitVec 32 := Scf.iv c0_i32_33 c1_i32_34 k0_t1
  let c32_i32 : BitVec 32 := 32#32
  let v100 : BitVec 32 := Scalar.muli arg11 c32_i32
  let v101 : BitVec 32 := Scalar.addi c0_i32_36 v100
  let v102 : BitVec 32 := v101
  let v1346 : Index := Scalar.indexCast v102
  let c7040 : Index := 7040#32
  ![v1346.toNat, 7040]
@[reducible] def k0_t2_loop : Scf.Loop 32 :=
  let c0_i32_6 : BitVec 32 := 0#32
  let c16_i32 : BitVec 32 := 16#32
  let v28 : BitVec 32 := Scalar.addi c0_i32_6 c16_i32
  let c1_i32_7 : BitVec 32 := 1#32
  ⟨c0_i32_6, v28, c1_i32_7⟩
def k0_mult3 (k0_t2 : Fin k0_t2_loop.trips) : BitVec 32 :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  v75
def k0_mult4 (k0_t2 : Fin k0_t2_loop.trips) : BitVec 32 :=
  let c0_i32_6 : BitVec 32 := 0#32
  let c1_i32_7 : BitVec 32 := 1#32
  let arg11 : BitVec 32 := Scf.iv c0_i32_6 c1_i32_7 k0_t2
  let c32_i32_27 : BitVec 32 := 32#32
  let v77 : BitVec 32 := Scalar.muli arg11 c32_i32_27
  v77
def k0_off89 (k0_t2 : Fin k0_t2_loop.trips) : Fin 2 → Nat :=
  let c0_i32_6 : BitVec 32 := 0#32
  let c1_i32_7 : BitVec 32 := 1#32
  let arg11 : BitVec 32 := Scf.iv c0_i32_6 c1_i32_7 k0_t2
  let c32_i32_27 : BitVec 32 := 32#32
  let v77 : BitVec 32 := Scalar.muli arg11 c32_i32_27
  let v78 : BitVec 32 := v77
  let v79 : Index := Scalar.indexCast v78
  let c0_28 : Index := 0#32
  ![v79.toNat, 0]
def k0_off90 (k0_t2 : Fin k0_t2_loop.trips) : Fin 2 → Nat :=
  let c0_i32_6 : BitVec 32 := 0#32
  let c1_i32_7 : BitVec 32 := 1#32
  let arg11 : BitVec 32 := Scf.iv c0_i32_6 c1_i32_7 k0_t2
  let c32_i32_27 : BitVec 32 := 32#32
  let v77 : BitVec 32 := Scalar.muli arg11 c32_i32_27
  let v78 : BitVec 32 := v77
  let v94 : Index := Scalar.indexCast v78
  let c0_31 : Index := 0#32
  ![v94.toNat, 0]
def k0_off91 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v119 : Index := Scalar.indexCast v76
  let c0_33 : Index := 0#32
  ![v119.toNat, 0]
def k0_off92 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v124 : Index := Scalar.indexCast v76
  let c3584 : Index := 3584#32
  ![v124.toNat, 3584]
def k0_off93 (k0_t2 : Fin k0_t2_loop.trips) : Fin 2 → Nat :=
  let c0_i32_6 : BitVec 32 := 0#32
  let c1_i32_7 : BitVec 32 := 1#32
  let arg11 : BitVec 32 := Scf.iv c0_i32_6 c1_i32_7 k0_t2
  let c32_i32_27 : BitVec 32 := 32#32
  let v77 : BitVec 32 := Scalar.muli arg11 c32_i32_27
  let v78 : BitVec 32 := v77
  let v139 : Index := Scalar.indexCast v78
  let c128 : Index := 128#32
  ![v139.toNat, 128]
def k0_off94 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v164 : Index := Scalar.indexCast v76
  let c128_44 : Index := 128#32
  ![v164.toNat, 128]
def k0_off95 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v169 : Index := Scalar.indexCast v76
  let c3712 : Index := 3712#32
  ![v169.toNat, 3712]
def k0_off96 (k0_t2 : Fin k0_t2_loop.trips) : Fin 2 → Nat :=
  let c0_i32_6 : BitVec 32 := 0#32
  let c1_i32_7 : BitVec 32 := 1#32
  let arg11 : BitVec 32 := Scf.iv c0_i32_6 c1_i32_7 k0_t2
  let c32_i32_27 : BitVec 32 := 32#32
  let v77 : BitVec 32 := Scalar.muli arg11 c32_i32_27
  let v78 : BitVec 32 := v77
  let v184 : Index := Scalar.indexCast v78
  let c256 : Index := 256#32
  ![v184.toNat, 256]
def k0_off97 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v209 : Index := Scalar.indexCast v76
  let c256_55 : Index := 256#32
  ![v209.toNat, 256]
def k0_off98 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v214 : Index := Scalar.indexCast v76
  let c3840 : Index := 3840#32
  ![v214.toNat, 3840]
def k0_off99 (k0_t2 : Fin k0_t2_loop.trips) : Fin 2 → Nat :=
  let c0_i32_6 : BitVec 32 := 0#32
  let c1_i32_7 : BitVec 32 := 1#32
  let arg11 : BitVec 32 := Scf.iv c0_i32_6 c1_i32_7 k0_t2
  let c32_i32_27 : BitVec 32 := 32#32
  let v77 : BitVec 32 := Scalar.muli arg11 c32_i32_27
  let v78 : BitVec 32 := v77
  let v229 : Index := Scalar.indexCast v78
  let c384 : Index := 384#32
  ![v229.toNat, 384]
def k0_off100 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v254 : Index := Scalar.indexCast v76
  let c384_65 : Index := 384#32
  ![v254.toNat, 384]
def k0_off101 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v259 : Index := Scalar.indexCast v76
  let c3968 : Index := 3968#32
  ![v259.toNat, 3968]
def k0_off102 (k0_t2 : Fin k0_t2_loop.trips) : Fin 2 → Nat :=
  let c0_i32_6 : BitVec 32 := 0#32
  let c1_i32_7 : BitVec 32 := 1#32
  let arg11 : BitVec 32 := Scf.iv c0_i32_6 c1_i32_7 k0_t2
  let c32_i32_27 : BitVec 32 := 32#32
  let v77 : BitVec 32 := Scalar.muli arg11 c32_i32_27
  let v78 : BitVec 32 := v77
  let v274 : Index := Scalar.indexCast v78
  let c512 : Index := 512#32
  ![v274.toNat, 512]
def k0_off103 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v299 : Index := Scalar.indexCast v76
  let c512_75 : Index := 512#32
  ![v299.toNat, 512]
def k0_off104 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v304 : Index := Scalar.indexCast v76
  let c4096 : Index := 4096#32
  ![v304.toNat, 4096]
def k0_off105 (k0_t2 : Fin k0_t2_loop.trips) : Fin 2 → Nat :=
  let c0_i32_6 : BitVec 32 := 0#32
  let c1_i32_7 : BitVec 32 := 1#32
  let arg11 : BitVec 32 := Scf.iv c0_i32_6 c1_i32_7 k0_t2
  let c32_i32_27 : BitVec 32 := 32#32
  let v77 : BitVec 32 := Scalar.muli arg11 c32_i32_27
  let v78 : BitVec 32 := v77
  let v319 : Index := Scalar.indexCast v78
  let c640 : Index := 640#32
  ![v319.toNat, 640]
def k0_off106 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v344 : Index := Scalar.indexCast v76
  let c640_85 : Index := 640#32
  ![v344.toNat, 640]
def k0_off107 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v349 : Index := Scalar.indexCast v76
  let c4224 : Index := 4224#32
  ![v349.toNat, 4224]
def k0_off108 (k0_t2 : Fin k0_t2_loop.trips) : Fin 2 → Nat :=
  let c0_i32_6 : BitVec 32 := 0#32
  let c1_i32_7 : BitVec 32 := 1#32
  let arg11 : BitVec 32 := Scf.iv c0_i32_6 c1_i32_7 k0_t2
  let c32_i32_27 : BitVec 32 := 32#32
  let v77 : BitVec 32 := Scalar.muli arg11 c32_i32_27
  let v78 : BitVec 32 := v77
  let v364 : Index := Scalar.indexCast v78
  let c768 : Index := 768#32
  ![v364.toNat, 768]
def k0_off109 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v389 : Index := Scalar.indexCast v76
  let c768_95 : Index := 768#32
  ![v389.toNat, 768]
def k0_off110 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v394 : Index := Scalar.indexCast v76
  let c4352 : Index := 4352#32
  ![v394.toNat, 4352]
def k0_off111 (k0_t2 : Fin k0_t2_loop.trips) : Fin 2 → Nat :=
  let c0_i32_6 : BitVec 32 := 0#32
  let c1_i32_7 : BitVec 32 := 1#32
  let arg11 : BitVec 32 := Scf.iv c0_i32_6 c1_i32_7 k0_t2
  let c32_i32_27 : BitVec 32 := 32#32
  let v77 : BitVec 32 := Scalar.muli arg11 c32_i32_27
  let v78 : BitVec 32 := v77
  let v409 : Index := Scalar.indexCast v78
  let c896 : Index := 896#32
  ![v409.toNat, 896]
def k0_off112 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v434 : Index := Scalar.indexCast v76
  let c896_105 : Index := 896#32
  ![v434.toNat, 896]
def k0_off113 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v439 : Index := Scalar.indexCast v76
  let c4480 : Index := 4480#32
  ![v439.toNat, 4480]
def k0_off114 (k0_t2 : Fin k0_t2_loop.trips) : Fin 2 → Nat :=
  let c0_i32_6 : BitVec 32 := 0#32
  let c1_i32_7 : BitVec 32 := 1#32
  let arg11 : BitVec 32 := Scf.iv c0_i32_6 c1_i32_7 k0_t2
  let c32_i32_27 : BitVec 32 := 32#32
  let v77 : BitVec 32 := Scalar.muli arg11 c32_i32_27
  let v78 : BitVec 32 := v77
  let v443 : Index := Scalar.indexCast v78
  let c128_106 : Index := 128#32
  ![v443.toNat, 128]
def k0_off115 (k0_t2 : Fin k0_t2_loop.trips) : Fin 2 → Nat :=
  let c0_i32_6 : BitVec 32 := 0#32
  let c1_i32_7 : BitVec 32 := 1#32
  let arg11 : BitVec 32 := Scf.iv c0_i32_6 c1_i32_7 k0_t2
  let c32_i32_27 : BitVec 32 := 32#32
  let v77 : BitVec 32 := Scalar.muli arg11 c32_i32_27
  let v78 : BitVec 32 := v77
  let v458 : Index := Scalar.indexCast v78
  let c1024 : Index := 1024#32
  ![v458.toNat, 1024]
def k0_off116 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v483 : Index := Scalar.indexCast v76
  let c1024_117 : Index := 1024#32
  ![v483.toNat, 1024]
def k0_off117 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v488 : Index := Scalar.indexCast v76
  let c4608 : Index := 4608#32
  ![v488.toNat, 4608]
def k0_off118 (k0_t2 : Fin k0_t2_loop.trips) : Fin 2 → Nat :=
  let c0_i32_6 : BitVec 32 := 0#32
  let c1_i32_7 : BitVec 32 := 1#32
  let arg11 : BitVec 32 := Scf.iv c0_i32_6 c1_i32_7 k0_t2
  let c32_i32_27 : BitVec 32 := 32#32
  let v77 : BitVec 32 := Scalar.muli arg11 c32_i32_27
  let v78 : BitVec 32 := v77
  let v503 : Index := Scalar.indexCast v78
  let c1152 : Index := 1152#32
  ![v503.toNat, 1152]
def k0_off119 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v528 : Index := Scalar.indexCast v76
  let c1152_128 : Index := 1152#32
  ![v528.toNat, 1152]
def k0_off120 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v533 : Index := Scalar.indexCast v76
  let c4736 : Index := 4736#32
  ![v533.toNat, 4736]
def k0_off121 (k0_t2 : Fin k0_t2_loop.trips) : Fin 2 → Nat :=
  let c0_i32_6 : BitVec 32 := 0#32
  let c1_i32_7 : BitVec 32 := 1#32
  let arg11 : BitVec 32 := Scf.iv c0_i32_6 c1_i32_7 k0_t2
  let c32_i32_27 : BitVec 32 := 32#32
  let v77 : BitVec 32 := Scalar.muli arg11 c32_i32_27
  let v78 : BitVec 32 := v77
  let v548 : Index := Scalar.indexCast v78
  let c1280 : Index := 1280#32
  ![v548.toNat, 1280]
def k0_off122 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v573 : Index := Scalar.indexCast v76
  let c1280_139 : Index := 1280#32
  ![v573.toNat, 1280]
def k0_off123 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v578 : Index := Scalar.indexCast v76
  let c4864 : Index := 4864#32
  ![v578.toNat, 4864]
def k0_off124 (k0_t2 : Fin k0_t2_loop.trips) : Fin 2 → Nat :=
  let c0_i32_6 : BitVec 32 := 0#32
  let c1_i32_7 : BitVec 32 := 1#32
  let arg11 : BitVec 32 := Scf.iv c0_i32_6 c1_i32_7 k0_t2
  let c32_i32_27 : BitVec 32 := 32#32
  let v77 : BitVec 32 := Scalar.muli arg11 c32_i32_27
  let v78 : BitVec 32 := v77
  let v593 : Index := Scalar.indexCast v78
  let c1408 : Index := 1408#32
  ![v593.toNat, 1408]
def k0_off125 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v618 : Index := Scalar.indexCast v76
  let c1408_150 : Index := 1408#32
  ![v618.toNat, 1408]
def k0_off126 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v623 : Index := Scalar.indexCast v76
  let c4992 : Index := 4992#32
  ![v623.toNat, 4992]
def k0_off127 (k0_t2 : Fin k0_t2_loop.trips) : Fin 2 → Nat :=
  let c0_i32_6 : BitVec 32 := 0#32
  let c1_i32_7 : BitVec 32 := 1#32
  let arg11 : BitVec 32 := Scf.iv c0_i32_6 c1_i32_7 k0_t2
  let c32_i32_27 : BitVec 32 := 32#32
  let v77 : BitVec 32 := Scalar.muli arg11 c32_i32_27
  let v78 : BitVec 32 := v77
  let v638 : Index := Scalar.indexCast v78
  let c1536 : Index := 1536#32
  ![v638.toNat, 1536]
def k0_off128 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v663 : Index := Scalar.indexCast v76
  let c1536_161 : Index := 1536#32
  ![v663.toNat, 1536]
def k0_off129 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v668 : Index := Scalar.indexCast v76
  let c5120 : Index := 5120#32
  ![v668.toNat, 5120]
def k0_off130 (k0_t2 : Fin k0_t2_loop.trips) : Fin 2 → Nat :=
  let c0_i32_6 : BitVec 32 := 0#32
  let c1_i32_7 : BitVec 32 := 1#32
  let arg11 : BitVec 32 := Scf.iv c0_i32_6 c1_i32_7 k0_t2
  let c32_i32_27 : BitVec 32 := 32#32
  let v77 : BitVec 32 := Scalar.muli arg11 c32_i32_27
  let v78 : BitVec 32 := v77
  let v683 : Index := Scalar.indexCast v78
  let c1664 : Index := 1664#32
  ![v683.toNat, 1664]
def k0_off131 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v708 : Index := Scalar.indexCast v76
  let c1664_172 : Index := 1664#32
  ![v708.toNat, 1664]
def k0_off132 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v713 : Index := Scalar.indexCast v76
  let c5248 : Index := 5248#32
  ![v713.toNat, 5248]
def k0_off133 (k0_t2 : Fin k0_t2_loop.trips) : Fin 2 → Nat :=
  let c0_i32_6 : BitVec 32 := 0#32
  let c1_i32_7 : BitVec 32 := 1#32
  let arg11 : BitVec 32 := Scf.iv c0_i32_6 c1_i32_7 k0_t2
  let c32_i32_27 : BitVec 32 := 32#32
  let v77 : BitVec 32 := Scalar.muli arg11 c32_i32_27
  let v78 : BitVec 32 := v77
  let v728 : Index := Scalar.indexCast v78
  let c1792 : Index := 1792#32
  ![v728.toNat, 1792]
def k0_off134 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v753 : Index := Scalar.indexCast v76
  let c1792_183 : Index := 1792#32
  ![v753.toNat, 1792]
def k0_off135 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v758 : Index := Scalar.indexCast v76
  let c5376 : Index := 5376#32
  ![v758.toNat, 5376]
def k0_off136 (k0_t2 : Fin k0_t2_loop.trips) : Fin 2 → Nat :=
  let c0_i32_6 : BitVec 32 := 0#32
  let c1_i32_7 : BitVec 32 := 1#32
  let arg11 : BitVec 32 := Scf.iv c0_i32_6 c1_i32_7 k0_t2
  let c32_i32_27 : BitVec 32 := 32#32
  let v77 : BitVec 32 := Scalar.muli arg11 c32_i32_27
  let v78 : BitVec 32 := v77
  let v773 : Index := Scalar.indexCast v78
  let c1920 : Index := 1920#32
  ![v773.toNat, 1920]
def k0_off137 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v798 : Index := Scalar.indexCast v76
  let c1920_194 : Index := 1920#32
  ![v798.toNat, 1920]
def k0_off138 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v803 : Index := Scalar.indexCast v76
  let c5504 : Index := 5504#32
  ![v803.toNat, 5504]
def k0_off139 (k0_t2 : Fin k0_t2_loop.trips) : Fin 2 → Nat :=
  let c0_i32_6 : BitVec 32 := 0#32
  let c1_i32_7 : BitVec 32 := 1#32
  let arg11 : BitVec 32 := Scf.iv c0_i32_6 c1_i32_7 k0_t2
  let c32_i32_27 : BitVec 32 := 32#32
  let v77 : BitVec 32 := Scalar.muli arg11 c32_i32_27
  let v78 : BitVec 32 := v77
  let v807 : Index := Scalar.indexCast v78
  let c256_195 : Index := 256#32
  ![v807.toNat, 256]
def k0_off140 (k0_t2 : Fin k0_t2_loop.trips) : Fin 2 → Nat :=
  let c0_i32_6 : BitVec 32 := 0#32
  let c1_i32_7 : BitVec 32 := 1#32
  let arg11 : BitVec 32 := Scf.iv c0_i32_6 c1_i32_7 k0_t2
  let c32_i32_27 : BitVec 32 := 32#32
  let v77 : BitVec 32 := Scalar.muli arg11 c32_i32_27
  let v78 : BitVec 32 := v77
  let v822 : Index := Scalar.indexCast v78
  let c2048 : Index := 2048#32
  ![v822.toNat, 2048]
def k0_off141 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v847 : Index := Scalar.indexCast v76
  let c2048_206 : Index := 2048#32
  ![v847.toNat, 2048]
def k0_off142 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v852 : Index := Scalar.indexCast v76
  let c5632 : Index := 5632#32
  ![v852.toNat, 5632]
def k0_off143 (k0_t2 : Fin k0_t2_loop.trips) : Fin 2 → Nat :=
  let c0_i32_6 : BitVec 32 := 0#32
  let c1_i32_7 : BitVec 32 := 1#32
  let arg11 : BitVec 32 := Scf.iv c0_i32_6 c1_i32_7 k0_t2
  let c32_i32_27 : BitVec 32 := 32#32
  let v77 : BitVec 32 := Scalar.muli arg11 c32_i32_27
  let v78 : BitVec 32 := v77
  let v867 : Index := Scalar.indexCast v78
  let c2176 : Index := 2176#32
  ![v867.toNat, 2176]
def k0_off144 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v892 : Index := Scalar.indexCast v76
  let c2176_217 : Index := 2176#32
  ![v892.toNat, 2176]
def k0_off145 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v897 : Index := Scalar.indexCast v76
  let c5760 : Index := 5760#32
  ![v897.toNat, 5760]
def k0_off146 (k0_t2 : Fin k0_t2_loop.trips) : Fin 2 → Nat :=
  let c0_i32_6 : BitVec 32 := 0#32
  let c1_i32_7 : BitVec 32 := 1#32
  let arg11 : BitVec 32 := Scf.iv c0_i32_6 c1_i32_7 k0_t2
  let c32_i32_27 : BitVec 32 := 32#32
  let v77 : BitVec 32 := Scalar.muli arg11 c32_i32_27
  let v78 : BitVec 32 := v77
  let v912 : Index := Scalar.indexCast v78
  let c2304 : Index := 2304#32
  ![v912.toNat, 2304]
def k0_off147 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v937 : Index := Scalar.indexCast v76
  let c2304_228 : Index := 2304#32
  ![v937.toNat, 2304]
def k0_off148 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v942 : Index := Scalar.indexCast v76
  let c5888 : Index := 5888#32
  ![v942.toNat, 5888]
def k0_off149 (k0_t2 : Fin k0_t2_loop.trips) : Fin 2 → Nat :=
  let c0_i32_6 : BitVec 32 := 0#32
  let c1_i32_7 : BitVec 32 := 1#32
  let arg11 : BitVec 32 := Scf.iv c0_i32_6 c1_i32_7 k0_t2
  let c32_i32_27 : BitVec 32 := 32#32
  let v77 : BitVec 32 := Scalar.muli arg11 c32_i32_27
  let v78 : BitVec 32 := v77
  let v957 : Index := Scalar.indexCast v78
  let c2432 : Index := 2432#32
  ![v957.toNat, 2432]
def k0_off150 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v982 : Index := Scalar.indexCast v76
  let c2432_239 : Index := 2432#32
  ![v982.toNat, 2432]
def k0_off151 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v987 : Index := Scalar.indexCast v76
  let c6016 : Index := 6016#32
  ![v987.toNat, 6016]
def k0_off152 (k0_t2 : Fin k0_t2_loop.trips) : Fin 2 → Nat :=
  let c0_i32_6 : BitVec 32 := 0#32
  let c1_i32_7 : BitVec 32 := 1#32
  let arg11 : BitVec 32 := Scf.iv c0_i32_6 c1_i32_7 k0_t2
  let c32_i32_27 : BitVec 32 := 32#32
  let v77 : BitVec 32 := Scalar.muli arg11 c32_i32_27
  let v78 : BitVec 32 := v77
  let v1002 : Index := Scalar.indexCast v78
  let c2560 : Index := 2560#32
  ![v1002.toNat, 2560]
def k0_off153 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v1027 : Index := Scalar.indexCast v76
  let c2560_250 : Index := 2560#32
  ![v1027.toNat, 2560]
def k0_off154 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v1032 : Index := Scalar.indexCast v76
  let c6144 : Index := 6144#32
  ![v1032.toNat, 6144]
def k0_off155 (k0_t2 : Fin k0_t2_loop.trips) : Fin 2 → Nat :=
  let c0_i32_6 : BitVec 32 := 0#32
  let c1_i32_7 : BitVec 32 := 1#32
  let arg11 : BitVec 32 := Scf.iv c0_i32_6 c1_i32_7 k0_t2
  let c32_i32_27 : BitVec 32 := 32#32
  let v77 : BitVec 32 := Scalar.muli arg11 c32_i32_27
  let v78 : BitVec 32 := v77
  let v1047 : Index := Scalar.indexCast v78
  let c2688 : Index := 2688#32
  ![v1047.toNat, 2688]
def k0_off156 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v1072 : Index := Scalar.indexCast v76
  let c2688_261 : Index := 2688#32
  ![v1072.toNat, 2688]
def k0_off157 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v1077 : Index := Scalar.indexCast v76
  let c6272 : Index := 6272#32
  ![v1077.toNat, 6272]
def k0_off158 (k0_t2 : Fin k0_t2_loop.trips) : Fin 2 → Nat :=
  let c0_i32_6 : BitVec 32 := 0#32
  let c1_i32_7 : BitVec 32 := 1#32
  let arg11 : BitVec 32 := Scf.iv c0_i32_6 c1_i32_7 k0_t2
  let c32_i32_27 : BitVec 32 := 32#32
  let v77 : BitVec 32 := Scalar.muli arg11 c32_i32_27
  let v78 : BitVec 32 := v77
  let v1092 : Index := Scalar.indexCast v78
  let c2816 : Index := 2816#32
  ![v1092.toNat, 2816]
def k0_off159 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v1117 : Index := Scalar.indexCast v76
  let c2816_272 : Index := 2816#32
  ![v1117.toNat, 2816]
def k0_off160 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v1122 : Index := Scalar.indexCast v76
  let c6400 : Index := 6400#32
  ![v1122.toNat, 6400]
def k0_off161 (k0_t2 : Fin k0_t2_loop.trips) : Fin 2 → Nat :=
  let c0_i32_6 : BitVec 32 := 0#32
  let c1_i32_7 : BitVec 32 := 1#32
  let arg11 : BitVec 32 := Scf.iv c0_i32_6 c1_i32_7 k0_t2
  let c32_i32_27 : BitVec 32 := 32#32
  let v77 : BitVec 32 := Scalar.muli arg11 c32_i32_27
  let v78 : BitVec 32 := v77
  let v1137 : Index := Scalar.indexCast v78
  let c2944 : Index := 2944#32
  ![v1137.toNat, 2944]
def k0_off162 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v1162 : Index := Scalar.indexCast v76
  let c2944_283 : Index := 2944#32
  ![v1162.toNat, 2944]
def k0_off163 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v1167 : Index := Scalar.indexCast v76
  let c6528 : Index := 6528#32
  ![v1167.toNat, 6528]
def k0_off164 (k0_t2 : Fin k0_t2_loop.trips) : Fin 2 → Nat :=
  let c0_i32_6 : BitVec 32 := 0#32
  let c1_i32_7 : BitVec 32 := 1#32
  let arg11 : BitVec 32 := Scf.iv c0_i32_6 c1_i32_7 k0_t2
  let c32_i32_27 : BitVec 32 := 32#32
  let v77 : BitVec 32 := Scalar.muli arg11 c32_i32_27
  let v78 : BitVec 32 := v77
  let v1171 : Index := Scalar.indexCast v78
  let c384_284 : Index := 384#32
  ![v1171.toNat, 384]
def k0_off165 (k0_t2 : Fin k0_t2_loop.trips) : Fin 2 → Nat :=
  let c0_i32_6 : BitVec 32 := 0#32
  let c1_i32_7 : BitVec 32 := 1#32
  let arg11 : BitVec 32 := Scf.iv c0_i32_6 c1_i32_7 k0_t2
  let c32_i32_27 : BitVec 32 := 32#32
  let v77 : BitVec 32 := Scalar.muli arg11 c32_i32_27
  let v78 : BitVec 32 := v77
  let v1187 : Index := Scalar.indexCast v78
  let c3072 : Index := 3072#32
  ![v1187.toNat, 3072]
def k0_off166 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v1212 : Index := Scalar.indexCast v76
  let c3072_295 : Index := 3072#32
  ![v1212.toNat, 3072]
def k0_off167 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v1217 : Index := Scalar.indexCast v76
  let c6656 : Index := 6656#32
  ![v1217.toNat, 6656]
def k0_off168 (k0_t2 : Fin k0_t2_loop.trips) : Fin 2 → Nat :=
  let c0_i32_6 : BitVec 32 := 0#32
  let c1_i32_7 : BitVec 32 := 1#32
  let arg11 : BitVec 32 := Scf.iv c0_i32_6 c1_i32_7 k0_t2
  let c32_i32_27 : BitVec 32 := 32#32
  let v77 : BitVec 32 := Scalar.muli arg11 c32_i32_27
  let v78 : BitVec 32 := v77
  let v1232 : Index := Scalar.indexCast v78
  let c3200 : Index := 3200#32
  ![v1232.toNat, 3200]
def k0_off169 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v1257 : Index := Scalar.indexCast v76
  let c3200_306 : Index := 3200#32
  ![v1257.toNat, 3200]
def k0_off170 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v1262 : Index := Scalar.indexCast v76
  let c6784 : Index := 6784#32
  ![v1262.toNat, 6784]
def k0_off171 (k0_t2 : Fin k0_t2_loop.trips) : Fin 2 → Nat :=
  let c0_i32_6 : BitVec 32 := 0#32
  let c1_i32_7 : BitVec 32 := 1#32
  let arg11 : BitVec 32 := Scf.iv c0_i32_6 c1_i32_7 k0_t2
  let c32_i32_27 : BitVec 32 := 32#32
  let v77 : BitVec 32 := Scalar.muli arg11 c32_i32_27
  let v78 : BitVec 32 := v77
  let v1277 : Index := Scalar.indexCast v78
  let c3328 : Index := 3328#32
  ![v1277.toNat, 3328]
def k0_off172 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v1302 : Index := Scalar.indexCast v76
  let c3328_317 : Index := 3328#32
  ![v1302.toNat, 3328]
def k0_off173 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v1307 : Index := Scalar.indexCast v76
  let c6912 : Index := 6912#32
  ![v1307.toNat, 6912]
def k0_off174 (k0_t2 : Fin k0_t2_loop.trips) : Fin 2 → Nat :=
  let c0_i32_6 : BitVec 32 := 0#32
  let c1_i32_7 : BitVec 32 := 1#32
  let arg11 : BitVec 32 := Scf.iv c0_i32_6 c1_i32_7 k0_t2
  let c32_i32_27 : BitVec 32 := 32#32
  let v77 : BitVec 32 := Scalar.muli arg11 c32_i32_27
  let v78 : BitVec 32 := v77
  let v1322 : Index := Scalar.indexCast v78
  let c3456 : Index := 3456#32
  ![v1322.toNat, 3456]
def k0_off175 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v1347 : Index := Scalar.indexCast v76
  let c3456_328 : Index := 3456#32
  ![v1347.toNat, 3456]
def k0_off176 (k0_t2 : Fin k0_t2_loop.trips) : Fin 2 → Nat :=
  let c0_i32_26 : BitVec 32 := 0#32
  let c0_i32_6 : BitVec 32 := 0#32
  let c1_i32_7 : BitVec 32 := 1#32
  let arg11 : BitVec 32 := Scf.iv c0_i32_6 c1_i32_7 k0_t2
  let c32_i32 : BitVec 32 := 32#32
  let v74 : BitVec 32 := Scalar.muli arg11 c32_i32
  let v75 : BitVec 32 := Scalar.addi c0_i32_26 v74
  let v76 : BitVec 32 := v75
  let v1352 : Index := Scalar.indexCast v76
  let c7040 : Index := 7040#32
  ![v1352.toNat, 7040]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3584 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x448 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2304x3584 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2304x448 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2304 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2x4096x3584 : Shape := ⟨3, ![2, 4096, 3584]⟩
abbrev S2x4096x448 : Shape := ⟨3, ![2, 4096, 448]⟩
abbrev S4 : Shape := ⟨1, ![4]⟩
abbrev S2304x3584 : Shape := ⟨2, ![2304, 3584]⟩
abbrev S2304x448 : Shape := ⟨2, ![2304, 448]⟩
abbrev S1 : Shape := ⟨1, ![1]⟩
abbrev S_ : Shape := ⟨0, ![]⟩
abbrev S2x4096x448x8 : Shape := ⟨4, ![2, 4096, 448, 8]⟩
abbrev S2x4096x448x1 : Shape := ⟨4, ![2, 4096, 448, 1]⟩
abbrev S2304x448x8 : Shape := ⟨3, ![2304, 448, 8]⟩
abbrev S2304x448x1 : Shape := ⟨3, ![2304, 448, 1]⟩
abbrev S2x4096x2304 : Shape := ⟨3, ![2, 4096, 2304]⟩
abbrev S8192 : Shape := ⟨1, ![8192]⟩
abbrev S1x8192 : Shape := ⟨2, ![1, 8192]⟩
abbrev S4x1 : Shape := ⟨2, ![4, 1]⟩
abbrev S4x8192 : Shape := ⟨2, ![4, 8192]⟩
abbrev S8192x1 : Shape := ⟨2, ![8192, 1]⟩
abbrev S2x4096x1 : Shape := ⟨3, ![2, 4096, 1]⟩
abbrev S8192x2304 : Shape := ⟨2, ![8192, 2304]⟩

abbrev nBuf : Space → Nat
  | .hbm => 223
  | .vmem => 4
  | .smem => 0
  | _ => 0

abbrev hbmTy0_0 (i : Nat) : BufTy := match i % 128 with
  | 0 => ⟨S2x4096x3584, .i8⟩
  | 1 => ⟨S2x4096x448, .fp8e4m3⟩
  | 2 => ⟨S4, .f32⟩
  | 3 => ⟨S2304x3584, .i8⟩
  | 4 => ⟨S2304x448, .fp8e4m3⟩
  | 5 => ⟨S1, .f32⟩
  | 6 => ⟨S4, .i32⟩
  | 7 => ⟨S2x4096x448, .bf16⟩
  | 8 => ⟨S2304x448, .bf16⟩
  | 9 => ⟨S2x4096x3584, .i32⟩
  | 10 => ⟨S2304x3584, .i32⟩
  | 11 => ⟨S_, .i32⟩
  | 12 => ⟨S2x4096x3584, .i32⟩
  | 13 => ⟨S2x4096x3584, .i32⟩
  | 14 => ⟨S_, .i32⟩
  | 15 => ⟨S2x4096x3584, .i32⟩
  | 16 => ⟨S2x4096x3584, .i32⟩
  | 17 => ⟨S_, .i32⟩
  | 18 => ⟨S2x4096x3584, .i32⟩
  | 19 => ⟨S2x4096x3584, .i32⟩
  | 20 => ⟨S_, .i32⟩
  | 21 => ⟨S2x4096x3584, .i32⟩
  | 22 => ⟨S2x4096x3584, .i32⟩
  | 23 => ⟨S_, .i32⟩
  | 24 => ⟨S2x4096x3584, .i32⟩
  | 25 => ⟨S2x4096x3584, .i32⟩
  | 26 => ⟨S_, .i32⟩
  | 27 => ⟨S2x4096x3584, .i32⟩
  | 28 => ⟨S2x4096x3584, .i32⟩
  | 29 => ⟨S_, .i32⟩
  | 30 => ⟨S2x4096x3584, .i32⟩
  | 31 => ⟨S2x4096x3584, .i32⟩
  | 32 => ⟨S2x4096x3584, .i32⟩
  | 33 => ⟨S_, .i32⟩
  | 34 => ⟨S2x4096x3584, .i32⟩
  | 35 => ⟨S2x4096x3584, .i32⟩
  | 36 => ⟨S_, .i32⟩
  | 37 => ⟨S2x4096x3584, .i32⟩
  | 38 => ⟨S2x4096x3584, .i32⟩
  | 39 => ⟨S2x4096x3584, .i32⟩
  | 40 => ⟨S_, .i32⟩
  | 41 => ⟨S2x4096x3584, .i32⟩
  | 42 => ⟨S2x4096x3584, .i32⟩
  | 43 => ⟨S_, .i32⟩
  | 44 => ⟨S2x4096x3584, .i32⟩
  | 45 => ⟨S2x4096x3584, .i32⟩
  | 46 => ⟨S2x4096x3584, .i32⟩
  | 47 => ⟨S2x4096x3584, .bf16⟩
  | 48 => ⟨S_, .bf16⟩
  | 49 => ⟨S2x4096x3584, .bf16⟩
  | 50 => ⟨S2x4096x3584, .bf16⟩
  | 51 => ⟨S2x4096x448x8, .bf16⟩
  | 52 => ⟨S2x4096x448x1, .bf16⟩
  | 53 => ⟨S2x4096x448x8, .bf16⟩
  | 54 => ⟨S2x4096x448x8, .bf16⟩
  | 55 => ⟨S2x4096x3584, .bf16⟩
  | 56 => ⟨S_, .i32⟩
  | 57 => ⟨S2x4096x3584, .i32⟩
  | 58 => ⟨S2x4096x3584, .i32⟩
  | 59 => ⟨S_, .i32⟩
  | 60 => ⟨S2x4096x3584, .i32⟩
  | 61 => ⟨S2x4096x3584, .i32⟩
  | 62 => ⟨S_, .i32⟩
  | 63 => ⟨S2x4096x3584, .i32⟩
  | 64 => ⟨S2x4096x3584, .i32⟩
  | 65 => ⟨S_, .i32⟩
  | 66 => ⟨S2x4096x3584, .i32⟩
  | 67 => ⟨S2x4096x3584, .i32⟩
  | 68 => ⟨S_, .i32⟩
  | 69 => ⟨S2x4096x3584, .i32⟩
  | 70 => ⟨S2x4096x3584, .i32⟩
  | 71 => ⟨S_, .i32⟩
  | 72 => ⟨S2x4096x3584, .i32⟩
  | 73 => ⟨S2x4096x3584, .i32⟩
  | 74 => ⟨S_, .i32⟩
  | 75 => ⟨S2x4096x3584, .i32⟩
  | 76 => ⟨S2x4096x3584, .i32⟩
  | 77 => ⟨S2x4096x3584, .i32⟩
  | 78 => ⟨S_, .i32⟩
  | 79 => ⟨S2x4096x3584, .i32⟩
  | 80 => ⟨S2x4096x3584, .i32⟩
  | 81 => ⟨S_, .i32⟩
  | 82 => ⟨S2x4096x3584, .i32⟩
  | 83 => ⟨S2x4096x3584, .i32⟩
  | 84 => ⟨S2x4096x3584, .i32⟩
  | 85 => ⟨S_, .i32⟩
  | 86 => ⟨S2x4096x3584, .i32⟩
  | 87 => ⟨S2x4096x3584, .i32⟩
  | 88 => ⟨S_, .i32⟩
  | 89 => ⟨S2x4096x3584, .i32⟩
  | 90 => ⟨S2x4096x3584, .i32⟩
  | 91 => ⟨S2x4096x3584, .i32⟩
  | 92 => ⟨S2x4096x3584, .bf16⟩
  | 93 => ⟨S_, .bf16⟩
  | 94 => ⟨S2x4096x3584, .bf16⟩
  | 95 => ⟨S2x4096x3584, .bf16⟩
  | 96 => ⟨S2x4096x448x8, .bf16⟩
  | 97 => ⟨S2x4096x448x1, .bf16⟩
  | 98 => ⟨S2x4096x448x8, .bf16⟩
  | 99 => ⟨S2x4096x448x8, .bf16⟩
  | 100 => ⟨S2x4096x3584, .bf16⟩
  | 101 => ⟨S_, .i32⟩
  | 102 => ⟨S2304x3584, .i32⟩
  | 103 => ⟨S2304x3584, .i32⟩
  | 104 => ⟨S_, .i32⟩
  | 105 => ⟨S2304x3584, .i32⟩
  | 106 => ⟨S2304x3584, .i32⟩
  | 107 => ⟨S_, .i32⟩
  | 108 => ⟨S2304x3584, .i32⟩
  | 109 => ⟨S2304x3584, .i32⟩
  | 110 => ⟨S_, .i32⟩
  | 111 => ⟨S2304x3584, .i32⟩
  | 112 => ⟨S2304x3584, .i32⟩
  | 113 => ⟨S_, .i32⟩
  | 114 => ⟨S2304x3584, .i32⟩
  | 115 => ⟨S2304x3584, .i32⟩
  | 116 => ⟨S_, .i32⟩
  | 117 => ⟨S2304x3584, .i32⟩
  | 118 => ⟨S2304x3584, .i32⟩
  | 119 => ⟨S_, .i32⟩
  | 120 => ⟨S2304x3584, .i32⟩
  | 121 => ⟨S2304x3584, .i32⟩
  | 122 => ⟨S2304x3584, .i32⟩
  | 123 => ⟨S_, .i32⟩
  | 124 => ⟨S2304x3584, .i32⟩
  | 125 => ⟨S2304x3584, .i32⟩
  | 126 => ⟨S_, .i32⟩
  | 127 => ⟨S2304x3584, .i32⟩
  | _ => ⟨S2x4096x3584, .i8⟩

abbrev hbmTy0_1 (i : Nat) : BufTy := match i % 128 with
  | 0 => ⟨S2304x3584, .i32⟩
  | 1 => ⟨S2304x3584, .i32⟩
  | 2 => ⟨S_, .i32⟩
  | 3 => ⟨S2304x3584, .i32⟩
  | 4 => ⟨S2304x3584, .i32⟩
  | 5 => ⟨S_, .i32⟩
  | 6 => ⟨S2304x3584, .i32⟩
  | 7 => ⟨S2304x3584, .i32⟩
  | 8 => ⟨S2304x3584, .i32⟩
  | 9 => ⟨S2304x3584, .bf16⟩
  | 10 => ⟨S_, .bf16⟩
  | 11 => ⟨S2304x3584, .bf16⟩
  | 12 => ⟨S2304x3584, .bf16⟩
  | 13 => ⟨S2304x448x8, .bf16⟩
  | 14 => ⟨S2304x448x1, .bf16⟩
  | 15 => ⟨S2304x448x8, .bf16⟩
  | 16 => ⟨S2304x448x8, .bf16⟩
  | 17 => ⟨S2304x3584, .bf16⟩
  | 18 => ⟨S_, .i32⟩
  | 19 => ⟨S2304x3584, .i32⟩
  | 20 => ⟨S2304x3584, .i32⟩
  | 21 => ⟨S_, .i32⟩
  | 22 => ⟨S2304x3584, .i32⟩
  | 23 => ⟨S2304x3584, .i32⟩
  | 24 => ⟨S_, .i32⟩
  | 25 => ⟨S2304x3584, .i32⟩
  | 26 => ⟨S2304x3584, .i32⟩
  | 27 => ⟨S_, .i32⟩
  | 28 => ⟨S2304x3584, .i32⟩
  | 29 => ⟨S2304x3584, .i32⟩
  | 30 => ⟨S_, .i32⟩
  | 31 => ⟨S2304x3584, .i32⟩
  | 32 => ⟨S2304x3584, .i32⟩
  | 33 => ⟨S_, .i32⟩
  | 34 => ⟨S2304x3584, .i32⟩
  | 35 => ⟨S2304x3584, .i32⟩
  | 36 => ⟨S_, .i32⟩
  | 37 => ⟨S2304x3584, .i32⟩
  | 38 => ⟨S2304x3584, .i32⟩
  | 39 => ⟨S2304x3584, .i32⟩
  | 40 => ⟨S_, .i32⟩
  | 41 => ⟨S2304x3584, .i32⟩
  | 42 => ⟨S2304x3584, .i32⟩
  | 43 => ⟨S_, .i32⟩
  | 44 => ⟨S2304x3584, .i32⟩
  | 45 => ⟨S2304x3584, .i32⟩
  | 46 => ⟨S2304x3584, .i32⟩
  | 47 => ⟨S_, .i32⟩
  | 48 => ⟨S2304x3584, .i32⟩
  | 49 => ⟨S2304x3584, .i32⟩
  | 50 => ⟨S_, .i32⟩
  | 51 => ⟨S2304x3584, .i32⟩
  | 52 => ⟨S2304x3584, .i32⟩
  | 53 => ⟨S2304x3584, .i32⟩
  | 54 => ⟨S2304x3584, .bf16⟩
  | 55 => ⟨S_, .bf16⟩
  | 56 => ⟨S2304x3584, .bf16⟩
  | 57 => ⟨S2304x3584, .bf16⟩
  | 58 => ⟨S2304x448x8, .bf16⟩
  | 59 => ⟨S2304x448x1, .bf16⟩
  | 60 => ⟨S2304x448x8, .bf16⟩
  | 61 => ⟨S2304x448x8, .bf16⟩
  | 62 => ⟨S2304x3584, .bf16⟩
  | 63 => ⟨S2x4096x2304, .f32⟩
  | 64 => ⟨S2x4096x2304, .f32⟩
  | 65 => ⟨S2x4096x2304, .f32⟩
  | 66 => ⟨S8192, .i32⟩
  | 67 => ⟨S1x8192, .i32⟩
  | 68 => ⟨S4x1, .i32⟩
  | 69 => ⟨S4x8192, .i32⟩
  | 70 => ⟨S4x8192, .i32⟩
  | 71 => ⟨S4x8192, .i1⟩
  | 72 => ⟨S4x8192, .i32⟩
  | 73 => ⟨S_, .i32⟩
  | 74 => ⟨S8192, .i32⟩
  | 75 => ⟨S_, .i32⟩
  | 76 => ⟨S8192, .i32⟩
  | 77 => ⟨S8192, .i32⟩
  | 78 => ⟨S_, .i32⟩
  | 79 => ⟨S8192, .i32⟩
  | 80 => ⟨S8192, .i1⟩
  | 81 => ⟨S_, .i32⟩
  | 82 => ⟨S8192, .i32⟩
  | 83 => ⟨S8192, .i32⟩
  | 84 => ⟨S8192, .i32⟩
  | 85 => ⟨S8192x1, .i32⟩
  | 86 => ⟨S8192, .f32⟩
  | 87 => ⟨S2x4096x1, .f32⟩
  | 88 => ⟨S2x4096x2304, .f32⟩
  | 89 => ⟨S2x4096x2304, .f32⟩
  | 90 => ⟨S_, .f32⟩
  | 91 => ⟨S2x4096x2304, .f32⟩
  | 92 => ⟨S2x4096x2304, .f32⟩
  | 93 => ⟨S2x4096x2304, .bf16⟩
  | 94 => ⟨S8192x2304, .bf16⟩
  | _ => ⟨S2x4096x3584, .i8⟩

abbrev hbmTy (i : Nat) : BufTy := match i / 128 with
  | 0 => hbmTy0_0 i
  | 1 => hbmTy0_1 i
  | _ => ⟨S2x4096x3584, .i8⟩

abbrev bufTy : (tb : Table) → Fin (tcTables nBuf tb) → BufTy
  | .hbm, ⟨i, _⟩ => hbmTy i
  | .local _ .vmem, ⟨0, _⟩ => ⟨S2x4096x448, .fp8e4m3⟩
  | .local _ .vmem, ⟨1, _⟩ => ⟨S2304x448, .fp8e4m3⟩
  | .local _ .vmem, ⟨2, _⟩ => ⟨S2x4096x448, .bf16⟩
  | .local _ .vmem, ⟨3, _⟩ => ⟨S2304x448, .bf16⟩
  | _, _ => ⟨S2x4096x3584, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_c_4 : Ref sig .tc := ⟨.hbm, 26, rfl⟩
abbrev main_v13 : Ref sig .tc := ⟨.hbm, 27, rfl⟩
abbrev main_v14 : Ref sig .tc := ⟨.hbm, 28, rfl⟩
abbrev main_c_5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_6 : Ref sig .tc := ⟨.hbm, 33, rfl⟩
abbrev main_v18 : Ref sig .tc := ⟨.hbm, 34, rfl⟩
abbrev main_v19 : Ref sig .tc := ⟨.hbm, 35, rfl⟩
abbrev main_c_7 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_8 : Ref sig .tc := ⟨.hbm, 40, rfl⟩
abbrev main_v23 : Ref sig .tc := ⟨.hbm, 41, rfl⟩
abbrev main_v24 : Ref sig .tc := ⟨.hbm, 42, rfl⟩
abbrev main_c_9 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_10 : Ref sig .tc := ⟨.hbm, 56, rfl⟩
abbrev main_v36 : Ref sig .tc := ⟨.hbm, 57, rfl⟩
abbrev main_v37 : Ref sig .tc := ⟨.hbm, 58, rfl⟩
abbrev main_c_11 : Ref sig .tc := ⟨.hbm, 59, rfl⟩
abbrev main_v38 : Ref sig .tc := ⟨.hbm, 60, rfl⟩
abbrev main_v39 : Ref sig .tc := ⟨.hbm, 61, rfl⟩
abbrev main_c_12 : Ref sig .tc := ⟨.hbm, 62, rfl⟩
abbrev main_v40 : Ref sig .tc := ⟨.hbm, 63, rfl⟩
abbrev main_v41 : Ref sig .tc := ⟨.hbm, 64, rfl⟩
abbrev main_c_13 : Ref sig .tc := ⟨.hbm, 65, rfl⟩
abbrev main_v42 : Ref sig .tc := ⟨.hbm, 66, rfl⟩
abbrev main_v43 : Ref sig .tc := ⟨.hbm, 67, rfl⟩
abbrev main_c_14 : Ref sig .tc := ⟨.hbm, 68, rfl⟩
abbrev main_v44 : Ref sig .tc := ⟨.hbm, 69, rfl⟩
abbrev main_v45 : Ref sig .tc := ⟨.hbm, 70, rfl⟩
abbrev main_c_15 : Ref sig .tc := ⟨.hbm, 71, rfl⟩
abbrev main_v46 : Ref sig .tc := ⟨.hbm, 72, rfl⟩
abbrev main_v47 : Ref sig .tc := ⟨.hbm, 73, rfl⟩
abbrev main_c_16 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_17 : Ref sig .tc := ⟨.hbm, 78, rfl⟩
abbrev main_v51 : Ref sig .tc := ⟨.hbm, 79, rfl⟩
abbrev main_v52 : Ref sig .tc := ⟨.hbm, 80, rfl⟩
abbrev main_c_18 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_c_19 : Ref sig .tc := ⟨.hbm, 85, rfl⟩
abbrev main_v56 : Ref sig .tc := ⟨.hbm, 86, rfl⟩
abbrev main_v57 : Ref sig .tc := ⟨.hbm, 87, rfl⟩
abbrev main_c_20 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_21 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_22 : Ref sig .tc := ⟨.hbm, 101, rfl⟩
abbrev main_v69 : Ref sig .tc := ⟨.hbm, 102, rfl⟩
abbrev main_v70 : Ref sig .tc := ⟨.hbm, 103, rfl⟩
abbrev main_c_23 : Ref sig .tc := ⟨.hbm, 104, rfl⟩
abbrev main_v71 : Ref sig .tc := ⟨.hbm, 105, rfl⟩
abbrev main_v72 : Ref sig .tc := ⟨.hbm, 106, rfl⟩
abbrev main_c_24 : Ref sig .tc := ⟨.hbm, 107, rfl⟩
abbrev main_v73 : Ref sig .tc := ⟨.hbm, 108, rfl⟩
abbrev main_v74 : Ref sig .tc := ⟨.hbm, 109, rfl⟩
abbrev main_c_25 : Ref sig .tc := ⟨.hbm, 110, rfl⟩
abbrev main_v75 : Ref sig .tc := ⟨.hbm, 111, rfl⟩
abbrev main_v76 : Ref sig .tc := ⟨.hbm, 112, rfl⟩
abbrev main_c_26 : Ref sig .tc := ⟨.hbm, 113, rfl⟩
abbrev main_v77 : Ref sig .tc := ⟨.hbm, 114, rfl⟩
abbrev main_v78 : Ref sig .tc := ⟨.hbm, 115, rfl⟩
abbrev main_c_27 : Ref sig .tc := ⟨.hbm, 116, rfl⟩
abbrev main_v79 : Ref sig .tc := ⟨.hbm, 117, rfl⟩
abbrev main_v80 : Ref sig .tc := ⟨.hbm, 118, rfl⟩
abbrev main_c_28 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_c_29 : Ref sig .tc := ⟨.hbm, 123, rfl⟩
abbrev main_v84 : Ref sig .tc := ⟨.hbm, 124, rfl⟩
abbrev main_v85 : Ref sig .tc := ⟨.hbm, 125, rfl⟩
abbrev main_c_30 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_c_31 : Ref sig .tc := ⟨.hbm, 130, rfl⟩
abbrev main_v89 : Ref sig .tc := ⟨.hbm, 131, rfl⟩
abbrev main_v90 : Ref sig .tc := ⟨.hbm, 132, rfl⟩
abbrev main_c_32 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_33 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_c_34 : Ref sig .tc := ⟨.hbm, 146, rfl⟩
abbrev main_v102 : Ref sig .tc := ⟨.hbm, 147, rfl⟩
abbrev main_v103 : Ref sig .tc := ⟨.hbm, 148, rfl⟩
abbrev main_c_35 : Ref sig .tc := ⟨.hbm, 149, rfl⟩
abbrev main_v104 : Ref sig .tc := ⟨.hbm, 150, rfl⟩
abbrev main_v105 : Ref sig .tc := ⟨.hbm, 151, rfl⟩
abbrev main_c_36 : Ref sig .tc := ⟨.hbm, 152, rfl⟩
abbrev main_v106 : Ref sig .tc := ⟨.hbm, 153, rfl⟩
abbrev main_v107 : Ref sig .tc := ⟨.hbm, 154, rfl⟩
abbrev main_c_37 : Ref sig .tc := ⟨.hbm, 155, rfl⟩
abbrev main_v108 : Ref sig .tc := ⟨.hbm, 156, rfl⟩
abbrev main_v109 : Ref sig .tc := ⟨.hbm, 157, rfl⟩
abbrev main_c_38 : Ref sig .tc := ⟨.hbm, 158, rfl⟩
abbrev main_v110 : Ref sig .tc := ⟨.hbm, 159, rfl⟩
abbrev main_v111 : Ref sig .tc := ⟨.hbm, 160, rfl⟩
abbrev main_c_39 : Ref sig .tc := ⟨.hbm, 161, rfl⟩
abbrev main_v112 : Ref sig .tc := ⟨.hbm, 162, rfl⟩
abbrev main_v113 : Ref sig .tc := ⟨.hbm, 163, rfl⟩
abbrev main_c_40 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_c_41 : Ref sig .tc := ⟨.hbm, 168, rfl⟩
abbrev main_v117 : Ref sig .tc := ⟨.hbm, 169, rfl⟩
abbrev main_v118 : Ref sig .tc := ⟨.hbm, 170, rfl⟩
abbrev main_c_42 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_c_43 : Ref sig .tc := ⟨.hbm, 175, rfl⟩
abbrev main_v122 : Ref sig .tc := ⟨.hbm, 176, rfl⟩
abbrev main_v123 : Ref sig .tc := ⟨.hbm, 177, rfl⟩
abbrev main_c_44 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_cst_45 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_call0_call0_v0 : Ref sig .tc := ⟨.hbm, 195, rfl⟩
abbrev main_call0_call0_v1 : Ref sig .tc := ⟨.hbm, 196, rfl⟩
abbrev main_call0_call0_v2 : Ref sig .tc := ⟨.hbm, 197, rfl⟩
abbrev main_call0_call0_v3 : Ref sig .tc := ⟨.hbm, 198, rfl⟩
abbrev main_call0_call0_v4 : Ref sig .tc := ⟨.hbm, 199, rfl⟩
abbrev main_call0_call0_v5 : Ref sig .tc := ⟨.hbm, 200, rfl⟩
abbrev main_call0_call0_c : Ref sig .tc := ⟨.hbm, 201, rfl⟩
abbrev main_v139 : Ref sig .tc := ⟨.hbm, 202, rfl⟩
abbrev main_c_46 : Ref sig .tc := ⟨.hbm, 203, rfl⟩
abbrev main_v140 : Ref sig .tc := ⟨.hbm, 204, rfl⟩
abbrev main_v141 : Ref sig .tc := ⟨.hbm, 205, rfl⟩
abbrev main_c_47 : Ref sig .tc := ⟨.hbm, 206, rfl⟩
abbrev main_v142 : Ref sig .tc := ⟨.hbm, 207, rfl⟩
abbrev main_v143 : Ref sig .tc := ⟨.hbm, 208, rfl⟩
abbrev main_c_48 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x4096x448 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2304x448 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4096x448 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2304x448 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Decode.lean ====
/-
  THE FOUR-BIT CODES. A code is a sign, a two-bit exponent and a one-bit mantissa. Its value is a whole number of halves.
  The kernel moves the four bits of a code to the sign, the two low exponent bits and the high mantissa bit of an
  eight-bit float; read as that float the pattern denotes the code's value times 2^-6, that is its halves times 2^-7.
-/
module

public import Idealize.ShloMosaic.Lib.BitcastFour
public import Idealize.ShloMosaic.PureOps.Ideal

@[expose] public section
noncomputable section
namespace Cert.Nvfp4
open Idealize.ShloMosaic

/-- Twice the value of the four-bit code `n`: sign, then significand shifted by the exponent. -/
def halves (n : ℕ) : ℤ :=
  (1 - 2 * ((n / 8 : ℕ) : ℤ)) * (((n % 2 + 2 * min (n / 2 % 4) 1) * 2 ^ (max (n / 2 % 4) 1 - 1) : ℕ) : ℤ)

/-- The float pattern of a byte's low code. -/
def loByte (c : BitVec 8) : BitVec 8 := ((c &&& 8#8) <<< 4) ||| ((c &&& 7#8) <<< 2)

/-- The float pattern of a byte's high code. -/
def hiByte (c : BitVec 8) : BitVec 8 := (c &&& 128#8) ||| ((c &&& 112#8) >>> 2)

/-- The low pattern depends on the low four bits alone. -/
theorem loByte_nibble : ∀ c : BitVec 8, loByte c = loByte (BitVec.ofNat 8 (c.toNat % 16)) := by decide +kernel

/-- The high pattern is the low pattern of the high four bits. -/
theorem hiByte_nibble : ∀ c : BitVec 8, hiByte c = loByte (BitVec.ofNat 8 (c.toNat / 16)) := by decide +kernel

/-- The pattern of a four-bit code denotes its halves times 2^-7. -/
theorem ofBits_code (n : ℕ) (hn : n < 16) :
    Ideal.ofBits .fp8e4m3 (loByte (BitVec.ofNat 8 n)) = (((halves n : ℝ) * (1 / 128) : ℝ) : EReal) := by
  interval_cases n <;> simp [loByte, Ideal.ofBits, Ideal.e4m3fn, halves, -EReal.coe_mul] <;> norm_num

/-- What the low pattern of a byte denotes. -/
theorem ofBits_loByte (c : BitVec 8) :
    Ideal.ofBits .fp8e4m3 (loByte c) = (((halves (c.toNat % 16) : ℝ) * (1 / 128) : ℝ) : EReal) := by
  rw [loByte_nibble]; exact ofBits_code _ (by omega)

/-- What the high pattern of a byte denotes. -/
theorem ofBits_hiByte (c : BitVec 8) :
    Ideal.ofBits .fp8e4m3 (hiByte c) = (((halves (c.toNat / 16) : ℝ) * (1 / 128) : ℝ) : EReal) := by
  rw [hiByte_nibble]; exact ofBits_code _ (by have := c.isLt; omega)

end Cert.Nvfp4
end
-- ==== Proof.Words.lean ====
/-
  FOUR CODES AT A TIME. The kernel reads four rows of bytes as one row of 32-bit words, moves the code bits of the four
  bytes by masks and shifts of the word, and reads the words back as four rows of bytes. Each byte then is the pattern of
  its own row's byte: the masks keep every shifted bit inside its byte.
-/
module

public import proofs.«01_k».proof.Proof.Decode
public import Idealize.ShloMosaic.Lib.ValueIdxCore

@[expose] public section
noncomputable section
namespace Cert.Nvfp4
open Idealize.ShloMosaic

/-- A 32 by 128 tile and the 8 by 128 tile of words over it. -/
abbrev Tile : Shape := ⟨2, ![32, 128]⟩
abbrev Words : Shape := ⟨2, ![8, 128]⟩

/-- The word holding the low patterns of a word's four bytes. -/
def loWord (w : BitVec 32) : BitVec 32 := ((w &&& 134744072#32) <<< 4) ||| ((w &&& 117901063#32) <<< 2)

/-- The word holding the high patterns of a word's four bytes. -/
def hiWord (w : BitVec 32) : BitVec 32 := (w &&& 2155905152#32) ||| ((w &&& 1886417008#32).sshiftRight 2)

/-- Byte `p` of the low word is the low pattern of byte `p`. -/
theorem loWord_byte (w : BitVec 32) (p : ℕ) (hp : p < 4) :
    (loWord w).extractLsb' (8 * p) 8 = loByte (w.extractLsb' (8 * p) 8) := by
  apply BitVec.eq_of_getLsbD_eq
  intro q hq
  interval_cases p <;> interval_cases q <;> simp [loWord, loByte, BitVec.getLsbD_extractLsb'] <;> rfl

/-- Byte `p` of the high word is the high pattern of byte `p`. -/
theorem hiWord_byte (w : BitVec 32) (p : ℕ) (hp : p < 4) :
    (hiWord w).extractLsb' (8 * p) 8 = hiByte (w.extractLsb' (8 * p) 8) := by
  have hm : (w &&& 1886417008#32).msb = false := by rw [BitVec.msb_and, show (1886417008#32 : BitVec 32).msb = false by decide, Bool.and_false]
  have e : (w &&& 1886417008#32).sshiftRight 2 = (w &&& 1886417008#32) >>> 2 := BitVec.sshiftRight_eq_of_msb_false hm
  apply BitVec.eq_of_getLsbD_eq
  intro q hq
  interval_cases p <;> interval_cases q <;> simp [hiWord, e, hiByte, BitVec.getLsbD_extractLsb']

/-- Byte `a % 4` of the word over row `a` is row `a`'s byte. -/
theorem word_byte (c : Tile.Idx → BitVec 8) (h : Tile.Bitcasts 8 Words 32) (a : Fin 32) (l : Fin 128) :
    (bitcast Words 32 c h (ValueIdx.ix2 ⟨a.val / 4, by omega⟩ l)).extractLsb' (8 * (a.val % 4)) 8 = c (ValueIdx.ix2 a l) := by
  apply BitVec.eq_of_getLsbD_eq
  intro q hq
  rw [BitVec.getLsbD_extractLsb', bitcast_8_32_getLsbD_ix2 c h _ l _ (by omega) a (by show _ = 4 * (a.val / 4) + _; omega)]
  simp only [hq, decide_true, Bool.true_and]
  congr 1; omega

/-- Words read back as bytes: row `a`'s byte is byte `a % 4` of the word over it. -/
theorem byte_word (x : Words.Idx → BitVec 32) (h : Words.Bitcasts 32 Tile 8) (a : Fin 32) (l : Fin 128) :
    bitcast Tile 8 x h (ValueIdx.ix2 a l) = (x (ValueIdx.ix2 ⟨a.val / 4, by omega⟩ l)).extractLsb' (8 * (a.val % 4)) 8 := by
  apply BitVec.eq_of_getLsbD_eq
  intro q hq
  rw [bitcast_getLsbD x h _ q hq (by decide), BitVec.getLsbD_extractLsb']
  have e : Tile.row (ValueIdx.ix2 a l) = a.val := rfl
  simp only [hq, decide_true, Bool.true_and, e]
  congr 1
  · congr 1
    funext b
    match b with
    | ⟨0, _⟩ =>
      refine Fin.ext ((h.srcIdx_row _ _ _ ⟨0, Nat.zero_lt_two⟩ rfl).trans ?_)
      show (Tile.row (ValueIdx.ix2 a l) * 8 + q) / 32 = a.val / 4
      rw [e]; omega
    | ⟨1, _⟩ => exact Fin.ext (h.srcIdx_other _ _ _ ⟨1, Nat.one_lt_two⟩ (by show ¬ 1 + 2 = 2; omega))
  · omega

/-- The low patterns of a tile of bytes, through words and back. -/
theorem lo_tile (c : Tile.Idx → BitVec 8) (h : Tile.Bitcasts 8 Words 32) (h' : Words.Bitcasts 32 Tile 8) (j : Tile.Idx) :
    bitcast Tile 8 (fun i => loWord (bitcast Words 32 c h i)) h' j = loByte (c j) := by
  obtain ⟨a, l, rfl⟩ : ∃ (a : Fin 32) (l : Fin 128), j = ValueIdx.ix2 a l := ⟨j 0, j 1, by funext b; match b with | ⟨0, _⟩ => rfl | ⟨1, _⟩ => rfl⟩
  rw [byte_word, loWord_byte _ _ (by omega), word_byte]

/-- The high patterns of a tile of bytes, through words and back. -/
theorem hi_tile (c : Tile.Idx → BitVec 8) (h : Tile.Bitcasts 8 Words 32) (h' : Words.Bitcasts 32 Tile 8) (j : Tile.Idx) :
    bitcast Tile 8 (fun i => hiWord (bitcast Words 32 c h i)) h' j = hiByte (c j) := by
  obtain ⟨a, l, rfl⟩ : ∃ (a : Fin 32) (l : Fin 128), j = ValueIdx.ix2 a l := ⟨j 0, j 1, by funext b; match b with | ⟨0, _⟩ => rfl | ⟨1, _⟩ => rfl⟩
  rw [byte_word, hiWord_byte _ _ (by omega), word_byte]

end Cert.Nvfp4
end
-- ==== Proof.Tile.lean ====
/-
  ONE DEQUANTISED TILE. A trip of a dequantising loop stores, for each of its 28 column tiles of 32 by 128 bytes, a tile
  of low codes and, 3584 columns further on, a tile of high codes. Each code's pattern, read as a float, is multiplied by
  the block scale of its byte: byte column `b` has scale column `b / 8`, gathered from a slab of scales by lane.
  This file says what an entry of either tile is worth, as an entry of one array, `deq`, of all dequantised codes.
-/
module

public import proofs.«01_k».proof.Proof.Words
public import Idealize.ShloMosaic.Lib.Pipeline.Value

@[expose] public section
noncomputable section
namespace Cert.Nvfp4
open Idealize.ShloMosaic Idealize.ShloMosaic.ValueIdx

variable {R : ℕ}

/-- The dequantised codes of `R` rows, as the kernel lays them out: the low codes of a row's 3584 bytes, then the high. -/
def deq (codes : (⟨2, ![R, 3584]⟩ : Shape).Idx → BitVec 8) (scales : (⟨2, ![R, 448]⟩ : Shape).Idx → EReal)
    (y : (⟨2, ![R, 7168]⟩ : Shape).Idx) : EReal :=
  if h : (y 1).val < 3584 then
    Ideal.ofBits .fp8e4m3 (loByte (codes (ix2 (y 0) ⟨(y 1).val, h⟩))) * scales (ix2 (y 0) ⟨(y 1).val / 8, by omega⟩)
  else
    Ideal.ofBits .fp8e4m3 (hiByte (codes (ix2 (y 0) ⟨(y 1).val - 3584, by have h1 : (y 1).val < 7168 := (y 1).isLt; omega⟩)))
      * scales (ix2 (y 0) ⟨((y 1).val - 3584) / 8, by have h1 : (y 1).val < 7168 := (y 1).isLt; omega⟩)

/-- An index is fixed by its coordinates' values. -/
theorem idx2_ext {n m : ℕ} {i j : (⟨2, ![n, m]⟩ : Shape).Idx} (h0 : (i 0).val = (j 0).val) (h1 : (i 1).val = (j 1).val) : i = j := by
  funext b
  match b with | ⟨0, _⟩ => exact Fin.ext h0 | ⟨1, _⟩ => exact Fin.ext h1

/-- `deq` in its first 3584 columns. -/
theorem deq_lo (codes : (⟨2, ![R, 3584]⟩ : Shape).Idx → BitVec 8) (scales : (⟨2, ![R, 448]⟩ : Shape).Idx → EReal)
    (y : (⟨2, ![R, 7168]⟩ : Shape).Idx) (i : (⟨2, ![R, 3584]⟩ : Shape).Idx) (p : (⟨2, ![R, 448]⟩ : Shape).Idx)
    (i0 : (i 0).val = (y 0).val) (i1 : (i 1).val = (y 1).val) (p0 : (p 0).val = (y 0).val) (p1 : (p 1).val = (y 1).val / 8) :
    deq codes scales y = Ideal.ofBits .fp8e4m3 (loByte (codes i)) * scales p := by
  have hi : (i 1).val < 3584 := (i 1).isLt
  refine (dif_pos (show (y 1).val < 3584 by omega)).trans ?_
  congr 1
  · exact congrArg (fun z => Ideal.ofBits .fp8e4m3 (loByte (codes z))) (idx2_ext i0.symm i1.symm)
  · exact congrArg scales (idx2_ext p0.symm p1.symm)

/-- `deq` in its last 3584 columns. -/
theorem deq_hi (codes : (⟨2, ![R, 3584]⟩ : Shape).Idx → BitVec 8) (scales : (⟨2, ![R, 448]⟩ : Shape).Idx → EReal)
    (y : (⟨2, ![R, 7168]⟩ : Shape).Idx) (i : (⟨2, ![R, 3584]⟩ : Shape).Idx) (p : (⟨2, ![R, 448]⟩ : Shape).Idx)
    (i0 : (i 0).val = (y 0).val) (i1 : (i 1).val + 3584 = (y 1).val) (p0 : (p 0).val = (y 0).val) (p1 : (p 1).val = (i 1).val / 8) :
    deq codes scales y = Ideal.ofBits .fp8e4m3 (hiByte (codes i)) * scales p := by
  refine (dif_neg (show ¬ (y 1).val < 3584 by omega)).trans ?_
  congr 1
  · exact congrArg (fun z => Ideal.ofBits .fp8e4m3 (hiByte (codes z))) (idx2_ext i0.symm (by show (y 1).val - 3584 = _; omega))
  · exact congrArg scales (idx2_ext p0.symm (by show ((y 1).val - 3584) / 8 = _; omega))

/-- The lane a scale is gathered from: lane `l` of column tile `T / 16` reads lane `T + l / 8` of the slab. -/
def lanes (pick : IVec Tile 32) (T : BitVec 32) : IVec Tile 32 :=
  select (cmpi .slt (addi pick (broadcast Tile T)) (broadcast Tile 0#32))
    (addi (addi pick (broadcast Tile T)) (broadcast Tile 128#32)) (addi pick (broadcast Tile T))

/-- `pick` is the lane number divided by the eight bytes a scale covers. -/
def PickOK (pick : IVec Tile 32) : Prop := ∀ j : Tile.Idx, pick j = BitVec.ofNat 32 ((j 1).val / 8)

theorem lanes_toNat {pick : IVec Tile 32} (hp : PickOK pick) (T : BitVec 32) (hT : T.toNat + 15 < 128) (j : Tile.Idx) :
    (lanes pick T j).toNat = T.toNat + (j 1).val / 8 := by
  have hj : (j 1).val < 128 := (j 1).isLt
  have hs : (pick j + T).toNat = T.toNat + (j 1).val / 8 := by
    rw [hp j, BitVec.toNat_add, BitVec.toNat_ofNat]; omega
  have hn : ((pick j + T).slt 0#32) = false := by
    rw [BitVec.slt_zero_eq_msb, BitVec.msb_eq_decide, decide_eq_false_iff_not, hs]; omega
  have e : lanes pick T j = if BitVec.ofBool ((pick j + T).slt 0#32) = 1#1 then pick j + T + 128#32 else pick j + T := rfl
  rw [e, hn, if_neg (by decide), hs]

/-- The slab `sf` holds, at lane `T + l / 8`, the scales whose array columns start at `offS 1`. -/
def SlabOK (scales : (⟨2, ![R, 448]⟩ : Shape).Idx → EReal) (offS : Fin 2 → ℕ) (T : BitVec 32) (sf : Tile.Idx → EReal) : Prop :=
  ∀ (a : Fin 32) (q : Fin 128) (p : (⟨2, ![R, 448]⟩ : Shape).Idx), q.val < T.toNat + 16 →
    (p 0).val = offS 0 + a.val → (p 1).val = offS 1 + q.val → sf (ix2 a q) = scales p

variable {sig : RefSig} {κ : Kind} {sp : Space}

/-- A slab of 128 scale columns, loaded whole. -/
theorem slab_full (v : View sig κ sp ⟨2, ![R, 448]⟩ .fp8e4m3) (X : v.ty.Contents (Elt Ideal)) (offS : Fin 2 → ℕ)
    (inb : ∀ a, offS a + Tile.size a ≤ (⟨2, ![R, 448]⟩ : Shape).size a) (T : BitVec 32) (h : FTy.fp8e4m3.bits < FTy.f32.bits) :
    SlabOK (v.read (Elt Ideal) X) offS T
      (extf (F := Ideal) (φ := .fp8e4m3) .f32 (v.readAt (Elt Ideal) (Rect.unit (s := ⟨2, ![R, 448]⟩) offS Tile.size inb).toLoadRect X) h) := by
  intro a q p _ h0 h1
  show v.read (Elt Ideal) X ((Rect.unit (s := ⟨2, ![R, 448]⟩) offS Tile.size inb).idx (ix2 a q)) = v.read (Elt Ideal) X p
  congr 1
  funext b
  match b with
  | ⟨0, _⟩ => exact Fin.ext (by show offS 0 + 1 * a.val = (p 0).val; omega)
  | ⟨1, _⟩ => exact Fin.ext (by show offS 1 + 1 * q.val = (p 1).val; omega)

/-- The last slab: 64 scale columns, laid beside themselves to fill the lanes; only the first copy is gathered from. -/
theorem slab_half (v : View sig κ sp ⟨2, ![R, 448]⟩ .fp8e4m3) (X : v.ty.Contents (Elt Ideal)) (offS : Fin 2 → ℕ)
    (inb : ∀ a, offS a + (⟨2, ![32, 64]⟩ : Shape).size a ≤ (⟨2, ![R, 448]⟩ : Shape).size a) (T : BitVec 32)
    (hT : T.toNat + 16 ≤ 64) (h : FTy.fp8e4m3.bits < FTy.f32.bits)
    (hc : Shape.Concatenates [⟨2, ![32, 64]⟩, ⟨2, ![32, 64]⟩] Tile 1) :
    SlabOK (v.read (Elt Ideal) X) offS T
      (concatenate Tile 1
        [⟨⟨2, ![32, 64]⟩, extf (F := Ideal) (φ := .fp8e4m3) .f32 (v.readAt (Elt Ideal) (Rect.unit (s := ⟨2, ![R, 448]⟩) offS (⟨2, ![32, 64]⟩ : Shape).size inb).toLoadRect X) h⟩,
         ⟨⟨2, ![32, 64]⟩, extf (F := Ideal) (φ := .fp8e4m3) .f32 (v.readAt (Elt Ideal) (Rect.unit (s := ⟨2, ![R, 448]⟩) offS (⟨2, ![32, 64]⟩ : Shape).size inb).toLoadRect X) h⟩] hc) := by
  intro a q p hq h0 h1
  have hq' : q.val < 64 := by omega
  rw [concatenate_pair_apply_left (s₁ := ⟨2, ![32, 64]⟩) (s₂ := ⟨2, ![32, 64]⟩) (j := ix2 a q) (h := hc) (hr := rfl)
    (i := ix2 a ⟨q.val, hq'⟩) (hi := fun b => by match b with | ⟨0, _⟩ => rfl | ⟨1, _⟩ => rfl)]
  show v.read (Elt Ideal) X ((Rect.unit (s := ⟨2, ![R, 448]⟩) offS (⟨2, ![32, 64]⟩ : Shape).size inb).idx (ix2 a ⟨q.val, hq'⟩)) = v.read (Elt Ideal) X p
  congr 1
  funext b
  match b with
  | ⟨0, _⟩ => exact Fin.ext (by show offS 0 + 1 * a.val = (p 0).val; omega)
  | ⟨1, _⟩ => exact Fin.ext (by show offS 1 + 1 * q.val = (p 1).val; omega)

/-- The same with a reshape to the same shape between. -/
theorem slab_half_cast (v : View sig κ sp ⟨2, ![R, 448]⟩ .fp8e4m3) (X : v.ty.Contents (Elt Ideal)) (offS : Fin 2 → ℕ)
    (inb : ∀ a, offS a + (⟨2, ![32, 64]⟩ : Shape).size a ≤ (⟨2, ![R, 448]⟩ : Shape).size a) (T : BitVec 32)
    (hT : T.toNat + 16 ≤ 64) (h : FTy.fp8e4m3.bits < FTy.f32.bits)
    (hsc : (⟨2, ![32, 64]⟩ : Shape).ShapeCasts ⟨2, ![32, 64]⟩)
    (hc : Shape.Concatenates [⟨2, ![32, 64]⟩, ⟨2, ![32, 64]⟩] Tile 1) :
    SlabOK (v.read (Elt Ideal) X) offS T
      (concatenate Tile 1
        [⟨⟨2, ![32, 64]⟩, extf (F := Ideal) (φ := .fp8e4m3) .f32 (shapeCast ⟨2, ![32, 64]⟩ (v.readAt (Elt Ideal) (Rect.unit (s := ⟨2, ![R, 448]⟩) offS (⟨2, ![32, 64]⟩ : Shape).size inb).toLoadRect X) hsc) h⟩,
         ⟨⟨2, ![32, 64]⟩, extf (F := Ideal) (φ := .fp8e4m3) .f32 (shapeCast ⟨2, ![32, 64]⟩ (v.readAt (Elt Ideal) (Rect.unit (s := ⟨2, ![R, 448]⟩) offS (⟨2, ![32, 64]⟩ : Shape).size inb).toLoadRect X) hsc) h⟩] hc) := by
  have key : shapeCast ⟨2, ![32, 64]⟩ (v.readAt (Elt Ideal) (Rect.unit (s := ⟨2, ![R, 448]⟩) offS (⟨2, ![32, 64]⟩ : Shape).size inb).toLoadRect X) hsc
      = v.readAt (Elt Ideal) (Rect.unit (s := ⟨2, ![R, 448]⟩) offS (⟨2, ![32, 64]⟩ : Shape).size inb).toLoadRect X := shapeCast_self _ _
  rw [key]
  exact slab_half v X offS inb T hT h hc

/-- The tile of low codes times its scales, as the kernel computes it. -/
def loTile (cd : Tile.Idx → BitVec 8) (sc : FVec Ideal Tile .bf16) (h : Tile.Bitcasts 8 Words 32) (h' : Words.Bitcasts 32 Tile 8)
    (hb : FTy.fp8e4m3.bits < FTy.bf16.bits) : FVec Ideal Tile .bf16 :=
  mulf (extf .bf16 (bitcastToFloat .fp8e4m3 (bitcast Tile 8
    (ori (shli (andi (bitcast Words 32 cd h) (broadcast Words 134744072#32)) (broadcast Words 4#32))
      (shli (andi (bitcast Words 32 cd h) (broadcast Words 117901063#32)) (broadcast Words 2#32))) h')) hb) sc

/-- The tile of high codes times its scales, as the kernel computes it. -/
def hiTile (cd : Tile.Idx → BitVec 8) (sc : FVec Ideal Tile .bf16) (h : Tile.Bitcasts 8 Words 32) (h' : Words.Bitcasts 32 Tile 8)
    (hb : FTy.fp8e4m3.bits < FTy.bf16.bits) : FVec Ideal Tile .bf16 :=
  mulf (extf .bf16 (bitcastToFloat .fp8e4m3 (bitcast Tile 8
    (ori (andi (bitcast Words 32 cd h) (broadcast Words 2155905152#32))
      (shrsi (andi (bitcast Words 32 cd h) (broadcast Words 1886417008#32)) (broadcast Words 2#32))) h')) hb) sc

/-- The scales of a tile, gathered from a slab. -/
def scTile (sf : FVec Ideal Tile .f32) (pick : IVec Tile 32) (T : BitVec 32) (hb : FTy.bf16.bits < FTy.f32.bits) :
    FVec Ideal Tile .bf16 :=
  truncf .bf16 (dynamicGather 1 sf (lanes pick T)) hb

theorem loTile_apply (cd : Tile.Idx → BitVec 8) (sc : FVec Ideal Tile .bf16) (h h' hb) (j : Tile.Idx) :
    loTile cd sc h h' hb j = Ideal.ofBits .fp8e4m3 (loByte (cd j)) * sc j := by
  rw [← lo_tile cd h h' j]; rfl

theorem hiTile_apply (cd : Tile.Idx → BitVec 8) (sc : FVec Ideal Tile .bf16) (h h' hb) (j : Tile.Idx) :
    hiTile cd sc h h' hb j = Ideal.ofBits .fp8e4m3 (hiByte (cd j)) * sc j := by
  rw [← hi_tile cd h h' j]; rfl

theorem scTile_apply {scales : (⟨2, ![R, 448]⟩ : Shape).Idx → EReal} {offS : Fin 2 → ℕ} {T : BitVec 32} {sf : Tile.Idx → EReal}
    (hs : SlabOK scales offS T sf) {pick : IVec Tile 32} (hp : PickOK pick) (hT : T.toNat + 15 < 128) (hb) (j : Tile.Idx)
    (p : (⟨2, ![R, 448]⟩ : Shape).Idx) (h0 : (p 0).val = offS 0 + (j 0).val) (h1 : (p 1).val = offS 1 + T.toNat + (j 1).val / 8) :
    scTile sf pick T hb j = scales p := by
  have hj : (j 1).val < 128 := (j 1).isLt
  have hl := lanes_toNat hp T hT j
  have e : scTile sf pick T hb j = sf (ix2 (j 0) ⟨(lanes pick T j).toNat % 128, Nat.mod_lt _ (by decide)⟩) := by
    show sf _ = sf _
    congr 1; funext b
    match b with | ⟨0, _⟩ => rfl | ⟨1, _⟩ => rfl
  rw [e]
  exact hs _ _ p (by show (lanes pick T j).toNat % 128 < _; rw [hl]; omega) h0 (by show _ = _ + (lanes pick T j).toNat % 128; rw [hl]; omega)

/-- The low tile at column `offC 1`, stored at that column, holds the low part of the dequantised array. -/
theorem lo_piece (v : View sig κ sp ⟨2, ![R, 3584]⟩ .i8) (X : v.ty.Contents (Elt Ideal)) (scales : (⟨2, ![R, 448]⟩ : Shape).Idx → EReal)
    (offC offS offO : Fin 2 → ℕ) (inb : ∀ a, offC a + Tile.size a ≤ (⟨2, ![R, 3584]⟩ : Shape).size a)
    (inbO : ∀ a, offO a + Tile.size a ≤ (⟨2, ![R, 7168]⟩ : Shape).size a)
    (T : BitVec 32) (sf : Tile.Idx → EReal) (pick : IVec Tile 32) (hp : PickOK pick) (h h' hb hb')
    (hs : SlabOK scales offS T sf) (hT : T.toNat + 15 < 128) (h0 : offO 0 = offC 0) (h1 : offS 0 = offC 0)
    (h2 : offO 1 = offC 1) (h3 : 8 * (offS 1 + T.toNat) = offC 1) (y : (Rect.unit (s := ⟨2, ![R, 7168]⟩) offO Tile.size inbO).shape.Idx) :
    loTile (v.readAt (Elt Ideal) (Rect.unit (s := ⟨2, ![R, 3584]⟩) offC Tile.size inb).toLoadRect X) (scTile sf pick T hb') h h' hb y
      = deq (v.read (Elt Ideal) X) scales ((Rect.unit (s := ⟨2, ![R, 7168]⟩) offO Tile.size inbO).emb y) := by
  have hc1 : offC 1 + 128 ≤ 3584 := inb 1
  have hy1 : (y 1).val < 128 := (y 1).isLt
  have hr : offC 0 + 32 ≤ R := inb 0
  have hy0 : (y 0).val < 32 := (y 0).isLt
  rw [loTile_apply, scTile_apply hs hp hT _ y (ix2 ⟨offC 0 + (y 0).val, by omega⟩ ⟨(offC 1 + (y 1).val) / 8, by omega⟩)
    (by show offC 0 + _ = _; omega) (by show (offC 1 + _) / 8 = _; omega)]
  exact (deq_lo _ _ _ ((Rect.unit (s := ⟨2, ![R, 3584]⟩) offC Tile.size inb).idx y) _
    (by show offC 0 + 1 * (y 0).val = offO 0 + 1 * (y 0).val; omega)
    (by show offC 1 + 1 * (y 1).val = offO 1 + 1 * (y 1).val; omega)
    (by show offC 0 + (y 0).val = offO 0 + 1 * (y 0).val; omega)
    (by show (offC 1 + (y 1).val) / 8 = (offO 1 + 1 * (y 1).val) / 8; omega)).symm

/-- The high tile at column `offC 1`, stored 3584 columns further on, holds the high part of the dequantised array. -/
theorem hi_piece (v : View sig κ sp ⟨2, ![R, 3584]⟩ .i8) (X : v.ty.Contents (Elt Ideal)) (scales : (⟨2, ![R, 448]⟩ : Shape).Idx → EReal)
    (offC offS offO : Fin 2 → ℕ) (inb : ∀ a, offC a + Tile.size a ≤ (⟨2, ![R, 3584]⟩ : Shape).size a)
    (inbO : ∀ a, offO a + Tile.size a ≤ (⟨2, ![R, 7168]⟩ : Shape).size a)
    (T : BitVec 32) (sf : Tile.Idx → EReal) (pick : IVec Tile 32) (hp : PickOK pick) (h h' hb hb')
    (hs : SlabOK scales offS T sf) (hT : T.toNat + 15 < 128) (h0 : offO 0 = offC 0) (h1 : offS 0 = offC 0)
    (h2 : offO 1 = offC 1 + 3584) (h3 : 8 * (offS 1 + T.toNat) = offC 1) (y : (Rect.unit (s := ⟨2, ![R, 7168]⟩) offO Tile.size inbO).shape.Idx) :
    hiTile (v.readAt (Elt Ideal) (Rect.unit (s := ⟨2, ![R, 3584]⟩) offC Tile.size inb).toLoadRect X) (scTile sf pick T hb') h h' hb y
      = deq (v.read (Elt Ideal) X) scales ((Rect.unit (s := ⟨2, ![R, 7168]⟩) offO Tile.size inbO).emb y) := by
  have hc1 : offC 1 + 128 ≤ 3584 := inb 1
  have hy1 : (y 1).val < 128 := (y 1).isLt
  have hr : offC 0 + 32 ≤ R := inb 0
  have hy0 : (y 0).val < 32 := (y 0).isLt
  rw [hiTile_apply, scTile_apply hs hp hT _ y (ix2 ⟨offC 0 + (y 0).val, by omega⟩ ⟨(offC 1 + (y 1).val) / 8, by omega⟩)
    (by show offC 0 + _ = _; omega) (by show (offC 1 + _) / 8 = _; omega)]
  exact (deq_hi _ _ _ ((Rect.unit (s := ⟨2, ![R, 3584]⟩) offC Tile.size inb).idx y) _
    (by show offC 0 + 1 * (y 0).val = offO 0 + 1 * (y 0).val; omega)
    (by show offC 1 + 1 * (y 1).val + 3584 = offO 1 + 1 * (y 1).val; omega)
    (by show offC 0 + (y 0).val = offO 0 + 1 * (y 0).val; omega)
    (by show (offC 1 + (y 1).val) / 8 = (offC 1 + 1 * (y 1).val) / 8; omega)).symm

end Cert.Nvfp4
end
-- ==== Proof.Pick.lean ====
/-
  LANE PICKS. The kernel spreads each group's scale over its eight lanes by a table of lane numbers; each table it builds is
  the one wanted.
-/
module

public import proofs.«01_k».proof.Proof.Tile
public import proofs.«01_k».proof.Proof.Gen.KernelIdeal.Value
public import Idealize.ShloMosaic.Lib.PointwiseCore

@[expose] public section
noncomputable section
namespace Cert.KernelIdeal.Gen
open Idealize.ShloMosaic Idealize.ShloMosaic.TcCoe Idealize.SL.Sem Cert.Nvfp4

/-- The weights' loop divides each lane's number by eight. -/
theorem pick_t1 : PickOK k0_pay323 := by
  intro j
  have hi : (iota .tc S32x128 32 [1] iota_S32x128_d1_w32) j = BitVec.ofNat 32 (j 1).val := iota_single_apply _ _ _ _ _ _
  have hj : (j 1).val < 128 := (j 1).isLt
  have hall : ∀ n : Fin 128, (Scalar.select
      (IntOp.andi
        (IntOp.cmpi .ne
          (IntOp.subi ((IntOp.cmpi .sgt (BitVec.ofNat 32 n.val) 0#32).setWidth 32) ((IntOp.cmpi .slt (BitVec.ofNat 32 n.val) 0#32).setWidth 32))
          (Scalar.subi (Scalar.extui (Scalar.cmpi .sgt 8#32 0#32)) (Scalar.extui (Scalar.cmpi .slt 8#32 0#32))))
        (IntOp.cmpi .ne (IntOp.remsi .vector (BitVec.ofNat 32 n.val) 8#32) 0#32))
      (IntOp.subi (IntOp.divsi .vector (BitVec.ofNat 32 n.val) 8#32) 1#32)
      (IntOp.divsi .vector (BitVec.ofNat 32 n.val) 8#32)) = BitVec.ofNat 32 (n.val / 8) := by decide +kernel
  unfold k0_pay323
  simp only [select, andi, cmpi, subi, extui, divsi, remsi, broadcast, hi]
  exact hall (j 1)

/-- So does the activations' loop. -/
theorem pick_t2 : PickOK k0_pay326 := pick_t1

end Cert.KernelIdeal.Gen
end
-- ==== Proof.TripX.lean ====
/-
  ONE PASS OF THE ACTIVATIONS' LOOP. Each pass turns one strip of 32 rows of codes into their values times their scales, low
  codes to the left half and high codes to the right half.
-/
module

public import proofs.«01_k».proof.Proof.Pick

@[expose] public section
noncomputable section
namespace Cert.KernelIdeal.Gen
open Idealize.ShloMosaic Idealize.ShloMosaic.TcCoe Idealize.SL.Sem Cert.Nvfp4

variable (𝒱 : Variants) (c : Dev nD) (bd : Option 𝒱.V) (i : grid0.Coords)
  (arg1 : Memref sig .tc .smem S4 .i32) (harg1 : arg1.IsWhole)
  (arg2 : Memref sig .tc .smem S4 .f32) (harg2 : arg2.IsWhole)
  (arg3 : Memref sig .tc .smem S1 .f32) (harg3 : arg3.IsWhole)
  (arg4 : Memref sig .tc .vmem S512x3584 .i8) (harg4 : arg4.IsWhole)
  (arg5 : Memref sig .tc .vmem S512x448 .fp8e4m3) (harg5 : arg5.IsWhole)
  (arg6 : Memref sig .tc .vmem S2304x3584 .i8) (harg6 : arg6.IsWhole)
  (arg7 : Memref sig .tc .vmem S2304x448 .fp8e4m3) (harg7 : arg7.IsWhole)
  (arg8 : Memref sig .tc .vmem S512x2304 .bf16) (harg8 : arg8.IsWhole)
  (arg9 : Memref sig .tc .vmem S2304x7168 .bf16) (harg9 : arg9.IsWhole)
  (arg10 : Memref sig .tc .vmem S512x7168 .bf16) (harg10 : arg10.IsWhole)

set_option maxHeartbeats 8000000 in
/-- Every tile that one pass of the loop over `x` stores is that tile of the array `deq` of its codes and scales. -/
theorem pieces_t2 (X_arg4 : BufTy.Contents (Elt Ideal) arg4.view.ty) (X_arg5 : BufTy.Contents (Elt Ideal) arg5.view.ty) (k : Fin k0_t2_loop.trips) :
    ∀ pc ∈ tripL_k0_t2 (F := Ideal) 𝒱 c bd i arg1 harg1 arg2 harg2 arg3 harg3 arg4 harg4 arg5 harg5 arg6 harg6 arg7 harg7 arg8 harg8 arg9 harg9 arg10 harg10 X_arg4 X_arg5 k,
      ∀ y : pc.1.shape.Idx, pc.2 y = deq (arg4.view.read (Elt Ideal) X_arg4) (arg5.view.read (Elt Ideal) X_arg5) (pc.1.emb y) := by
  unfold tripL_k0_t2; rw [trip_k0_t2]; dsimp only; simp only [List.forall_mem_cons]
  iterate 4
    refine ⟨?_, ?_, ?_⟩
    · sl_unfold_run_names
      unfold_payloads
      simp only [shapeCast_self, shapeCast_shapeCast]
      apply hi_piece (R := 512) arg4.view X_arg4 _ _ _ _ _ _ _ _ _ pick_t2
      · refine slab_half_cast arg5.view X_arg5 _ _ _ ?_ _ _ _; decide
      · decide
      all_goals revert k; decide +kernel
    · sl_unfold_run_names
      unfold_payloads
      simp only [shapeCast_self, shapeCast_shapeCast]
      apply lo_piece (R := 512) arg4.view X_arg4 _ _ _ _ _ _ _ _ _ pick_t2
      · refine slab_half_cast arg5.view X_arg5 _ _ _ ?_ _ _ _; decide
      · decide
      all_goals revert k; decide +kernel
  iterate 24
    refine ⟨?_, ?_, ?_⟩
    · sl_unfold_run_names
      unfold_payloads
      simp only [shapeCast_self, shapeCast_shapeCast]
      apply hi_piece (R := 512) arg4.view X_arg4 _ _ _ _ _ _ _ _ _ pick_t2
      · exact slab_full arg5.view X_arg5 _ _ _ _
      · decide
      all_goals revert k; decide +kernel
    · sl_unfold_run_names
      unfold_payloads
      simp only [shapeCast_self, shapeCast_shapeCast]
      apply lo_piece (R := 512) arg4.view X_arg4 _ _ _ _ _ _ _ _ _ pick_t2
      · exact slab_full arg5.view X_arg5 _ _ _ _
      · decide
      all_goals revert k; decide +kernel
  exact fun _ h => absurd h List.not_mem_nil

end Cert.KernelIdeal.Gen
end
-- ==== Proof.TripW.lean ====
/-
  ONE PASS OF THE WEIGHTS' LOOP, the activations' pass over the weights' own buffers.
-/
module

public import proofs.«01_k».proof.Proof.Pick

@[expose] public section
noncomputable section
namespace Cert.KernelIdeal.Gen
open Idealize.ShloMosaic Idealize.ShloMosaic.TcCoe Idealize.SL.Sem Cert.Nvfp4

variable (𝒱 : Variants) (c : Dev nD) (bd : Option 𝒱.V) (i : grid0.Coords)
  (arg1 : Memref sig .tc .smem S4 .i32) (harg1 : arg1.IsWhole)
  (arg2 : Memref sig .tc .smem S4 .f32) (harg2 : arg2.IsWhole)
  (arg3 : Memref sig .tc .smem S1 .f32) (harg3 : arg3.IsWhole)
  (arg4 : Memref sig .tc .vmem S512x3584 .i8) (harg4 : arg4.IsWhole)
  (arg5 : Memref sig .tc .vmem S512x448 .fp8e4m3) (harg5 : arg5.IsWhole)
  (arg6 : Memref sig .tc .vmem S2304x3584 .i8) (harg6 : arg6.IsWhole)
  (arg7 : Memref sig .tc .vmem S2304x448 .fp8e4m3) (harg7 : arg7.IsWhole)
  (arg8 : Memref sig .tc .vmem S512x2304 .bf16) (harg8 : arg8.IsWhole)
  (arg9 : Memref sig .tc .vmem S2304x7168 .bf16) (harg9 : arg9.IsWhole)
  (arg10 : Memref sig .tc .vmem S512x7168 .bf16) (harg10 : arg10.IsWhole)

set_option maxHeartbeats 8000000 in
/-- The same for one pass of the loop over the weights. -/
theorem pieces_t1 (k0_h1 : k0_cond1 i = 1#1) (X_arg6 : BufTy.Contents (Elt Ideal) arg6.view.ty) (X_arg7 : BufTy.Contents (Elt Ideal) arg7.view.ty) (k : Fin k0_t1_loop.trips) :
    ∀ pc ∈ tripL_k0_t1 (F := Ideal) 𝒱 c bd i arg1 harg1 arg2 harg2 arg3 harg3 arg4 harg4 arg5 harg5 arg6 harg6 arg7 harg7 arg8 harg8 arg9 harg9 arg10 harg10 k0_h1 X_arg6 X_arg7 k,
      ∀ y : pc.1.shape.Idx, pc.2 y = deq (arg6.view.read (Elt Ideal) X_arg6) (arg7.view.read (Elt Ideal) X_arg7) (pc.1.emb y) := by
  unfold tripL_k0_t1; rw [trip_k0_t1]; dsimp only; simp only [List.forall_mem_cons]
  iterate 4
    refine ⟨?_, ?_, ?_⟩
    · sl_unfold_run_names
      unfold_payloads
      simp only [shapeCast_self, shapeCast_shapeCast]
      apply hi_piece (R := 2304) arg6.view X_arg6 _ _ _ _ _ _ _ _ _ pick_t1
      · refine slab_half arg7.view X_arg7 _ _ _ ?_ _ _; decide
      · decide
      all_goals revert k; decide +kernel
    · sl_unfold_run_names
      unfold_payloads
      simp only [shapeCast_self, shapeCast_shapeCast]
      apply lo_piece (R := 2304) arg6.view X_arg6 _ _ _ _ _ _ _ _ _ pick_t1
      · refine slab_half arg7.view X_arg7 _ _ _ ?_ _ _; decide
      · decide
      all_goals revert k; decide +kernel
  iterate 24
    refine ⟨?_, ?_, ?_⟩
    · sl_unfold_run_names
      unfold_payloads
      simp only [shapeCast_self, shapeCast_shapeCast]
      apply hi_piece (R := 2304) arg6.view X_arg6 _ _ _ _ _ _ _ _ _ pick_t1
      · exact slab_full arg7.view X_arg7 _ _ _ _
      · decide
      all_goals revert k; decide +kernel
    · sl_unfold_run_names
      unfold_payloads
      simp only [shapeCast_self, shapeCast_shapeCast]
      apply lo_piece (R := 2304) arg6.view X_arg6 _ _ _ _ _ _ _ _ _ pick_t1
      · exact slab_full arg7.view X_arg7 _ _ _ _
      · decide
      all_goals revert k; decide +kernel
  exact fun _ h => absurd h List.not_mem_nil

end Cert.KernelIdeal.Gen
end
-- ==== Proof.Filled.lean ====
module

public import proofs.«01_k».proof.Proof.TripX
public import proofs.«01_k».proof.Proof.TripW

/-! The two loops fill their scratch buffers with the dequantised arrays. -/

@[expose] public section
noncomputable section
namespace Cert.KernelIdeal.Gen
open Idealize.ShloMosaic Idealize.ShloMosaic.TcCoe Idealize.SL.Sem Cert.Nvfp4

variable (𝒱 : Variants) (c : Dev nD) (bd : Option 𝒱.V) (i : grid0.Coords)
  (arg1 : Memref sig .tc .smem S4 .i32) (harg1 : arg1.IsWhole)
  (arg2 : Memref sig .tc .smem S4 .f32) (harg2 : arg2.IsWhole)
  (arg3 : Memref sig .tc .smem S1 .f32) (harg3 : arg3.IsWhole)
  (arg4 : Memref sig .tc .vmem S512x3584 .i8) (harg4 : arg4.IsWhole)
  (arg5 : Memref sig .tc .vmem S512x448 .fp8e4m3) (harg5 : arg5.IsWhole)
  (arg6 : Memref sig .tc .vmem S2304x3584 .i8) (harg6 : arg6.IsWhole)
  (arg7 : Memref sig .tc .vmem S2304x448 .fp8e4m3) (harg7 : arg7.IsWhole)
  (arg8 : Memref sig .tc .vmem S512x2304 .bf16) (harg8 : arg8.IsWhole)
  (arg9 : Memref sig .tc .vmem S2304x7168 .bf16) (harg9 : arg9.IsWhole)
  (arg10 : Memref sig .tc .vmem S512x7168 .bf16) (harg10 : arg10.IsWhole)

/-- After any number of passes over `x`, every stored tile is that tile of `deq`. -/
theorem pieces_upto_t2 (X_arg4 : BufTy.Contents (Elt Ideal) arg4.view.ty) (X_arg5 : BufTy.Contents (Elt Ideal) arg5.view.ty) (n : ℕ) (hn : n ≤ k0_t2_loop.trips) :
    ∀ pc ∈ pb_k0_t2 (F := Ideal) 𝒱 c bd i arg1 harg1 arg2 harg2 arg3 harg3 arg4 harg4 arg5 harg5 arg6 harg6 arg7 harg7 arg8 harg8 arg9 harg9 arg10 harg10 X_arg4 X_arg5 n,
      ∀ y : pc.1.shape.Idx, pc.2 y = deq (arg4.view.read (Elt Ideal) X_arg4) (arg5.view.read (Elt Ideal) X_arg5) (pc.1.emb y) := by
  induction n with
  | zero => exact fun _ h => absurd h List.not_mem_nil
  | succ n ih =>
    intro pc hpc
    rw [pb_k0_t2_succ 𝒱 c bd i arg1 harg1 arg2 harg2 arg3 harg3 arg4 harg4 arg5 harg5 arg6 harg6 arg7 harg7 arg8 harg8 arg9 harg9 arg10 harg10 X_arg4 X_arg5 ⟨n, hn⟩] at hpc
    rcases List.mem_append.mp hpc with h | h
    · exact pieces_t2 𝒱 c bd i arg1 harg1 arg2 harg2 arg3 harg3 arg4 harg4 arg5 harg5 arg6 harg6 arg7 harg7 arg8 harg8 arg9 harg9 arg10 harg10 X_arg4 X_arg5 ⟨n, hn⟩ pc h
    · exact ih (by omega) pc h

/-- The loop over `x` fills its scratch with `deq` of its codes and scales. -/
theorem filled_t2 (X_arg4 : BufTy.Contents (Elt Ideal) arg4.view.ty) (X_arg5 : BufTy.Contents (Elt Ideal) arg5.view.ty) :
    View.canon (pb_k0_t2 (F := Ideal) 𝒱 c bd i arg1 harg1 arg2 harg2 arg3 harg3 arg4 harg4 arg5 harg5 arg6 harg6 arg7 harg7 arg8 harg8 arg9 harg9 arg10 harg10 X_arg4 X_arg5 (Scf.trips k0_t2_loop.lb k0_t2_loop.ub k0_t2_loop.st)) = deq (arg4.view.read (Elt Ideal) X_arg4) (arg5.view.read (Elt Ideal) X_arg5) :=
  funext fun y => View.canon_apply_of_pieces _ _ (pieces_upto_t2 𝒱 c bd i arg1 harg1 arg2 harg2 arg3 harg3 arg4 harg4 arg5 harg5 arg6 harg6 arg7 harg7 arg8 harg8 arg9 harg9 arg10 harg10 X_arg4 X_arg5 _ le_rfl) y
    (View.cover_of_tiledL (pb_k0_t2 (F := Ideal) 𝒱 c bd i arg1 harg1 arg2 harg2 arg3 harg3 arg4 harg4 arg5 harg5 arg6 harg6 arg7 harg7 arg8 harg8 arg9 harg9 arg10 harg10 X_arg4 X_arg5 (Scf.trips k0_t2_loop.lb k0_t2_loop.ub k0_t2_loop.st)) S32x128.size (by sl_kernel_rfl) y)

/-- After any number of passes over the weights, every stored tile is that tile of `deq`. -/
theorem pieces_upto_t1 (k0_h1 : k0_cond1 i = 1#1) (X_arg6 : BufTy.Contents (Elt Ideal) arg6.view.ty) (X_arg7 : BufTy.Contents (Elt Ideal) arg7.view.ty) (n : ℕ) (hn : n ≤ k0_t1_loop.trips) :
    ∀ pc ∈ pb_k0_t1 (F := Ideal) 𝒱 c bd i arg1 harg1 arg2 harg2 arg3 harg3 arg4 harg4 arg5 harg5 arg6 harg6 arg7 harg7 arg8 harg8 arg9 harg9 arg10 harg10 k0_h1 X_arg6 X_arg7 n,
      ∀ y : pc.1.shape.Idx, pc.2 y = deq (arg6.view.read (Elt Ideal) X_arg6) (arg7.view.read (Elt Ideal) X_arg7) (pc.1.emb y) := by
  induction n with
  | zero => exact fun _ h => absurd h List.not_mem_nil
  | succ n ih =>
    intro pc hpc
    rw [pb_k0_t1_succ 𝒱 c bd i arg1 harg1 arg2 harg2 arg3 harg3 arg4 harg4 arg5 harg5 arg6 harg6 arg7 harg7 arg8 harg8 arg9 harg9 arg10 harg10 k0_h1 X_arg6 X_arg7 ⟨n, hn⟩] at hpc
    rcases List.mem_append.mp hpc with h | h
    · exact pieces_t1 𝒱 c bd i arg1 harg1 arg2 harg2 arg3 harg3 arg4 harg4 arg5 harg5 arg6 harg6 arg7 harg7 arg8 harg8 arg9 harg9 arg10 harg10 k0_h1 X_arg6 X_arg7 ⟨n, hn⟩ pc h
    · exact ih (by omega) pc h

/-- The loop over the weights fills its scratch with `deq` of its codes and scales. -/
theorem filled_t1 (k0_h1 : k0_cond1 i = 1#1) (X_arg6 : BufTy.Contents (Elt Ideal) arg6.view.ty) (X_arg7 : BufTy.Contents (Elt Ideal) arg7.view.ty) :
    View.canon (pb_k0_t1 (F := Ideal) 𝒱 c bd i arg1 harg1 arg2 harg2 arg3 harg3 arg4 harg4 arg5 harg5 arg6 harg6 arg7 harg7 arg8 harg8 arg9 harg9 arg10 harg10 k0_h1 X_arg6 X_arg7 (Scf.trips k0_t1_loop.lb k0_t1_loop.ub k0_t1_loop.st)) = deq (arg6.view.read (Elt Ideal) X_arg6) (arg7.view.read (Elt Ideal) X_arg7) :=
  funext fun y => View.canon_apply_of_pieces _ _ (pieces_upto_t1 𝒱 c bd i arg1 harg1 arg2 harg2 arg3 harg3 arg4 harg4 arg5 harg5 arg6 harg6 arg7 harg7 arg8 harg8 arg9 harg9 arg10 harg10 k0_h1 X_arg6 X_arg7 _ le_rfl) y
    (View.cover_of_tiledL (pb_k0_t1 (F := Ideal) 𝒱 c bd i arg1 harg1 arg2 harg2 arg3 harg3 arg4 harg4 arg5 harg5 arg6 harg6 arg7 harg7 arg8 harg8 arg9 harg9 arg10 harg10 k0_h1 X_arg6 X_arg7 (Scf.trips k0_t1_loop.lb k0_t1_loop.ub k0_t1_loop.st)) S32x128.size (by sl_kernel_rfl) y)

end Cert.KernelIdeal.Gen
end
-- ==== Proof.Block.lean ====
module

public import proofs.«01_k».proof.Proof.Filled

/-! What the kernel's body leaves in the output block and in the weights' scratch, as functions of the blocks it reads. -/

@[expose] public section
noncomputable section
namespace Cert.KernelIdeal.Gen
open Idealize.ShloMosaic Idealize.ShloMosaic.TcCoe Idealize.SL.Sem Cert.Nvfp4

/-- The output block of point `i`: the product of the two dequantised blocks, scaled row by row. -/
def blockOut (i : grid0.Coords) (x : Vec Ideal S512x7168 .bf16) (w : Vec Ideal S2304x7168 .bf16) (seg : Vec Ideal S4 .i32)
    (xg : Vec Ideal S4 .f32) (wg : Vec Ideal S1 .f32) : Vec Ideal S512x2304 .bf16 :=
  k0_pay1 (k0_pay329 x w) (k0_pay330 i) (xg (ValueIdx.ix1 3)) (seg (ValueIdx.ix1 0)) (xg (ValueIdx.ix1 0)) (seg (ValueIdx.ix1 1))
    (xg (ValueIdx.ix1 1)) (seg (ValueIdx.ix1 2)) (xg (ValueIdx.ix1 2)) (seg (ValueIdx.ix1 3)) (xg (ValueIdx.ix1 3)) (wg (ValueIdx.ix1 0))

section Loads
variable {sig' : RefSig} {κ : Kind} {sp : Space} {e : EltTy}

/-- A scalar load of entry `q` of a table reads that entry. -/
theorem load_entry {n : ℕ} (v : Memref sig' κ sp ⟨1, ![n]⟩ e) (hv : v.IsWhole) (x : (⟨1, ![n]⟩ : Shape).Idx → Elt Ideal e) (q : Fin n) (off : Fin 1 → ℕ)
    (ho : off 0 = q.val) (inb : ∀ a, off a + S1.size a ≤ (⟨1, ![n]⟩ : Shape).size a) (h : 0 < (Rect.unit (s := ⟨1, ![n]⟩) off S1.size inb).shape.numel) :
    v.view.readAt (Elt Ideal) (Rect.unit (s := ⟨1, ![n]⟩) off S1.size inb).toLoadRect (hv.unread x) (Shape.Idx.first h) = x (ValueIdx.ix1 q) := by
  rw [View.readAt_apply, hv.read_unread]
  congr 1
  funext a
  match a with
  | ⟨0, _⟩ => exact Fin.ext (by show off 0 + 1 * 0 = q.val; omega)

/-- A load of the whole buffer reads what it holds. -/
theorem load_whole {S : Shape} (v : Memref sig' κ sp S e) (hv : v.IsWhole) (x : S.Idx → Elt Ideal e) (off : Fin S.rank → ℕ)
    (ho : off = fun _ => 0) (inb : ∀ a, off a + S.size a ≤ S.size a) :
    v.view.readAt (Elt Ideal) (Rect.unit (s := S) off S.size inb).toLoadRect (hv.unread x) = x := by
  subst ho
  funext j
  rw [View.readAt_apply, hv.read_unread]
  exact congrFun (View.ld_unit_zero (Val := Elt Ideal) rfl inb x) j

/-- A load of the whole buffer after stores reads what the stores leave. -/
theorem load_stored {S : Shape} (v : View sig' κ sp S e) (L : List (View.Piece (Elt Ideal) S e)) (off : Fin S.rank → ℕ)
    (ho : off = fun _ => 0) (inb : ∀ a, off a + S.size a ≤ S.size a) :
    v.readCov L (Rect.unit (s := S) off S.size inb).toLoadRect = View.canon L := by
  subst ho
  rw [View.readCov_eq_canon']
  exact View.ld_unit_zero (Val := Elt Ideal) rfl inb (View.canon L)

end Loads

theorem off_zero2 : (![0, 0] : Fin 2 → ℕ) = fun _ => 0 := by decide

variable (c : Dev nD) (i : grid0.Coords)
  (arg1 : Memref sig .tc .smem S4 .i32) (harg1 : arg1.IsWhole)
  (arg2 : Memref sig .tc .smem S4 .f32) (harg2 : arg2.IsWhole)
  (arg3 : Memref sig .tc .smem S1 .f32) (harg3 : arg3.IsWhole)
  (arg4 : Memref sig .tc .vmem S512x3584 .i8) (harg4 : arg4.IsWhole)
  (arg5 : Memref sig .tc .vmem S512x448 .fp8e4m3) (harg5 : arg5.IsWhole)
  (arg6 : Memref sig .tc .vmem S2304x3584 .i8) (harg6 : arg6.IsWhole)
  (arg7 : Memref sig .tc .vmem S2304x448 .fp8e4m3) (harg7 : arg7.IsWhole)
  (arg8 : Memref sig .tc .vmem S512x2304 .bf16) (harg8 : arg8.IsWhole)
  (arg9 : Memref sig .tc .vmem S2304x7168 .bf16) (harg9 : arg9.IsWhole)
  (arg10 : Memref sig .tc .vmem S512x7168 .bf16) (harg10 : arg10.IsWhole)

/-- The output block at a point that reads the weights' scratch as an earlier point left it. -/
theorem out_B (hc0 : ¬cond0_0 i) (x0 : Vec Ideal S4 .i32) (x1 : Vec Ideal S4 .f32) (x2 : Vec Ideal S1 .f32) (x3 : Vec Ideal S512x3584 .i8) (x4 : Vec Ideal S512x448 .fp8e4m3) (x5 : Vec Ideal S2304x3584 .i8) (x6 : Vec Ideal S2304x448 .fp8e4m3) (xs0 : Vec Ideal S2304x7168 .bf16) :
    out0_B_7 (F := Ideal) c i arg1 harg1 arg2 harg2 arg3 harg3 arg4 harg4 arg5 harg5 arg6 harg6 arg7 harg7 arg8 harg8 arg9 harg9 arg10 harg10 hc0 x0 x1 x2 x3 x4 x5 x6 xs0 = blockOut i (deq x3 x4) xs0 x0 x1 x2 := by
  unfold out0_B_7
  rw [View.read_writes_junk_eq_canon]
  unfold kernelRun0_B
  dsimp only
  rw [View.canon_unit_zero off_zero2]
  sl_unfold_run_names
  unfold blockOut
  rw [load_stored _ _ _ off_zero2, filled_t2, load_whole _ harg9 _ _ off_zero2, harg4.read_unread, harg5.read_unread,
    load_entry arg2 harg2 x1 3 ![3] rfl, load_entry arg2 harg2 x1 2 ![2] rfl, load_entry arg2 harg2 x1 1 ![1] rfl, load_entry arg2 harg2 x1 0 ![0] rfl,
    load_entry arg1 harg1 x0 3 ![3] rfl, load_entry arg1 harg1 x0 2 ![2] rfl, load_entry arg1 harg1 x0 1 ![1] rfl, load_entry arg1 harg1 x0 0 ![0] rfl,
    load_entry arg3 harg3 x2 0 ![0] rfl]

/-- The output block at the point that fills the weights' scratch. -/
theorem out_A (hc0 : cond0_0 i) (x0 : Vec Ideal S4 .i32) (x1 : Vec Ideal S4 .f32) (x2 : Vec Ideal S1 .f32) (x3 : Vec Ideal S512x3584 .i8) (x4 : Vec Ideal S512x448 .fp8e4m3) (x5 : Vec Ideal S2304x3584 .i8) (x6 : Vec Ideal S2304x448 .fp8e4m3) :
    out0_A_7 (F := Ideal) c i arg1 harg1 arg2 harg2 arg3 harg3 arg4 harg4 arg5 harg5 arg6 harg6 arg7 harg7 arg8 harg8 arg9 harg9 arg10 harg10 hc0 x0 x1 x2 x3 x4 x5 x6 = blockOut i (deq x3 x4) (deq x5 x6) x0 x1 x2 := by
  unfold out0_A_7
  rw [View.read_writes_junk_eq_canon]
  unfold kernelRun0_A
  dsimp only
  rw [View.canon_unit_zero off_zero2]
  sl_unfold_run_names
  unfold blockOut
  rw [load_stored _ _ _ off_zero2, filled_t2, load_stored _ _ _ off_zero2, filled_t1, harg4.read_unread, harg5.read_unread, harg6.read_unread, harg7.read_unread,
    load_entry arg2 harg2 x1 3 ![3] rfl, load_entry arg2 harg2 x1 2 ![2] rfl, load_entry arg2 harg2 x1 1 ![1] rfl, load_entry arg2 harg2 x1 0 ![0] rfl,
    load_entry arg1 harg1 x0 3 ![3] rfl, load_entry arg1 harg1 x0 2 ![2] rfl, load_entry arg1 harg1 x0 1 ![1] rfl, load_entry arg1 harg1 x0 0 ![0] rfl,
    load_entry arg3 harg3 x2 0 ![0] rfl]

/-- What that point leaves in the weights' scratch. -/
theorem scratch_A (hc0 : cond0_0 i) (x0 : Vec Ideal S4 .i32) (x1 : Vec Ideal S4 .f32) (x2 : Vec Ideal S1 .f32) (x3 : Vec Ideal S512x3584 .i8) (x4 : Vec Ideal S512x448 .fp8e4m3) (x5 : Vec Ideal S2304x3584 .i8) (x6 : Vec Ideal S2304x448 .fp8e4m3) :
    sout0_A_0 (F := Ideal) c i arg1 harg1 arg2 harg2 arg3 harg3 arg4 harg4 arg5 harg5 arg6 harg6 arg7 harg7 arg8 harg8 arg9 harg9 arg10 harg10 hc0 x0 x1 x2 x3 x4 x5 x6 = deq x5 x6 := by
  unfold sout0_A_0
  rw [View.read_writes_junk_eq_canon]
  unfold kernelRun0_A
  dsimp only
  sl_unfold_run_names
  rw [filled_t1, harg6.read_unread, harg7.read_unread]

/-- The other points leave it as it was. -/
theorem scratch_B (hc0 : ¬cond0_0 i) (x0 : Vec Ideal S4 .i32) (x1 : Vec Ideal S4 .f32) (x2 : Vec Ideal S1 .f32) (x3 : Vec Ideal S512x3584 .i8) (x4 : Vec Ideal S512x448 .fp8e4m3) (x5 : Vec Ideal S2304x3584 .i8) (x6 : Vec Ideal S2304x448 .fp8e4m3) (xs0 : Vec Ideal S2304x7168 .bf16) :
    sout0_B_0 (F := Ideal) c i arg1 harg1 arg2 harg2 arg3 harg3 arg4 harg4 arg5 harg5 arg6 harg6 arg7 harg7 arg8 harg8 arg9 harg9 arg10 harg10 hc0 x0 x1 x2 x3 x4 x5 x6 xs0 = xs0 := by
  unfold sout0_B_0
  rfl

end Cert.KernelIdeal.Gen
end
-- ==== Proof.Group.lean ====
/-
  WHICH SCALE A ROW TAKES. The rows of the activations come in four groups, given by the row each group starts at. The
  kernel goes through the four starts and keeps the last one at or before the row; the reference counts the starts at or
  before the row and steps back one, a count of zero stepping back to the last group. With the starts in order the two
  pick the same group.
-/
module

public import Idealize.ShloMosaic.Lib.StableHlo.Predicate
public import Idealize.ShloMosaic.Lib.WordCmp
public import Idealize.ShloMosaic.Lib.ValueIdx

@[expose] public section
noncomputable section
namespace Cert.Nvfp4
open Idealize.ShloMosaic

/-- The last group whose start is at or before row `r`; the last group if there is none. -/
def groupOf (seg : Fin 4 → BitVec 32) (r : ℕ) : Fin 4 :=
  if (seg 3).toInt ≤ r then 3 else if (seg 2).toInt ≤ r then 2 else if (seg 1).toInt ≤ r then 1 else if (seg 0).toInt ≤ r then 0 else 3

/-- A row number below 8192 as a word, read back signed. -/
theorem toInt_row (r : ℕ) (hr : r < 8192) : (BitVec.ofNat 32 r).toInt = r := by
  rw [BitVec.toInt_eq_toNat_of_lt (by rw [BitVec.toNat_ofNat]; omega), BitVec.toNat_ofNat]; omega

/-- Choosing by one start: the bit is the comparison. -/
theorem select_from (r : ℕ) (hr : r < 8192) (s : BitVec 32) {α : Type} (a b : α) :
    Scalar.select (IntOp.cmpi .sge (BitVec.ofNat 32 r) s) a b = if s.toInt ≤ r then a else b := by
  rw [show IntOp.cmpi .sge (BitVec.ofNat 32 r) s = IntOp.cmpi .sle s (BitVec.ofNat 32 r) from rfl, WordCmp.cmpi_sle_eq, toInt_row r hr]
  by_cases h : s.toInt ≤ r <;> simp [h, Scalar.select]

/-- The kernel's four choices in turn read the row's group. -/
theorem select_group (seg : Fin 4 → BitVec 32) (r : ℕ) (hr : r < 8192) {α : Type} (x : Fin 4 → α) :
    Scalar.select (IntOp.cmpi .sge (BitVec.ofNat 32 r) (seg 3)) (x 3) (Scalar.select (IntOp.cmpi .sge (BitVec.ofNat 32 r) (seg 2)) (x 2)
      (Scalar.select (IntOp.cmpi .sge (BitVec.ofNat 32 r) (seg 1)) (x 1) (Scalar.select (IntOp.cmpi .sge (BitVec.ofNat 32 r) (seg 0)) (x 0) (x 3))))
      = x (groupOf seg r) := by
  simp only [select_from r hr, groupOf]
  split_ifs <;> rfl

/-- How many starts are at or before row `r`. -/
def started (seg : Fin 4 → BitVec 32) (r : ℕ) : ℕ := (Finset.univ.filter fun q : Fin 4 => (seg q).toInt ≤ r).card

/-- With the starts in order, one less than that count is the row's group, and no start at all means the last group. -/
theorem started_group (seg : Fin 4 → BitVec 32) (h01 : (seg 0).toInt ≤ (seg 1).toInt) (h12 : (seg 1).toInt ≤ (seg 2).toInt)
    (h23 : (seg 2).toInt ≤ (seg 3).toInt) (r : ℕ) : (if started seg r = 0 then 3 else started seg r - 1) = (groupOf seg r).val := by
  have e : started seg r = (if (seg 0).toInt ≤ r then 1 else 0) + (if (seg 1).toInt ≤ r then 1 else 0) + (if (seg 2).toInt ≤ r then 1 else 0)
      + (if (seg 3).toInt ≤ r then 1 else 0) := by
    unfold started
    rw [Finset.card_filter, Fin.sum_univ_four]
  rw [e]
  unfold groupOf
  by_cases h3 : (seg 3).toInt ≤ r
  · simp [h3, show (seg 0).toInt ≤ r by omega, show (seg 1).toInt ≤ r by omega, show (seg 2).toInt ≤ r by omega]
  by_cases h2 : (seg 2).toInt ≤ r
  · simp [h3, h2, show (seg 0).toInt ≤ r by omega, show (seg 1).toInt ≤ r by omega]
  by_cases h1 : (seg 1).toInt ≤ r
  · simp [h3, h2, h1, show (seg 0).toInt ≤ r by omega]
  by_cases h0 : (seg 0).toInt ≤ r <;> simp [h3, h2, h1, h0]

theorem started_le (seg : Fin 4 → BitVec 32) (r : ℕ) : started seg r ≤ 4 := by
  unfold started; exact (Finset.card_le_univ _).trans (by simp)

/-- Stepping back one from a count up to four, a negative position counting from the end of the four. -/
theorem step_back (w : BitVec 32) (h : w.toNat ≤ 4) :
    min (Scalar.select (IntOp.cmpi .slt (IntOp.subi w 1#32) 0#32) (IntOp.addi (IntOp.subi w 1#32) 4#32) (IntOp.subi w 1#32)).toInt.toNat (4 - 1)
      = if w.toNat = 0 then 3 else w.toNat - 1 := by
  obtain ⟨k, hk⟩ : ∃ k, w.toNat = k := ⟨_, rfl⟩
  have hw : w = BitVec.ofNat 32 k := by rw [← hk, BitVec.ofNat_toNat, BitVec.setWidth_eq]
  have hk4 : k ≤ 4 := hk ▸ h
  subst hw
  clear h hk
  interval_cases k <;> decide

end Cert.Nvfp4
end
-- ==== Proof.Linear.lean ====
/-
  THE EQUATION BOTH SIDES MEET. Row `r` of the activations and row `n` of the weights, decoded with their scales, are
  multiplied over the low codes and over the high codes; the sum of both is scaled by the row's group and by the weights.
-/
module

public import proofs.«01_k».proof.Proof.Decode
public import proofs.«01_k».proof.Proof.Group

@[expose] public section
noncomputable section
namespace Cert.Nvfp4
open Idealize.ShloMosaic

/-- What a byte's low code stands for under the scale `s`. -/
def lowVal (b : BitVec 8) (s : EReal) : EReal := (((halves (b.toNat % 16) : ℝ) * (1 / 2) : ℝ) : EReal) * s

/-- What a byte's high code stands for under the scale `s`. -/
def highVal (b : BitVec 8) (s : EReal) : EReal := (((halves (b.toNat / 16) : ℝ) * (1 / 2) : ℝ) : EReal) * s

/-- The group of eight a byte belongs to. -/
abbrev eighth (k : Fin 3584) : Fin 448 := ⟨k.val / 8, by omega⟩

/-- A row of the product is a row of one of the two batches. -/
abbrev batchOf (r : Fin 8192) : Fin 2 := ⟨r.val / 4096, by omega⟩
abbrev rowOf (r : Fin 8192) : Fin 4096 := ⟨r.val % 4096, by omega⟩

section
variable (x : (⟨3, ![2, 4096, 3584]⟩ : Shape).Idx → BitVec 8) (xs : (⟨3, ![2, 4096, 448]⟩ : Shape).Idx → EReal)
  (w : (⟨2, ![2304, 3584]⟩ : Shape).Idx → BitVec 8) (ws : (⟨2, ![2304, 448]⟩ : Shape).Idx → EReal) (r : Fin 8192) (n : Fin 2304)

/-- The product of row `r` and row `n` over the low codes. -/
def lowDot : EReal := ∑ k : Fin 3584,
  lowVal (x (ValueIdx.ix3 (batchOf r) (rowOf r) k)) (xs (ValueIdx.ix3 (batchOf r) (rowOf r) (eighth k)))
    * lowVal (w (ValueIdx.ix2 n k)) (ws (ValueIdx.ix2 n (eighth k)))

/-- The product over the high codes. -/
def highDot : EReal := ∑ k : Fin 3584,
  highVal (x (ValueIdx.ix3 (batchOf r) (rowOf r) k)) (xs (ValueIdx.ix3 (batchOf r) (rowOf r) (eighth k)))
    * highVal (w (ValueIdx.ix2 n k)) (ws (ValueIdx.ix2 n (eighth k)))

/-- The element at row `r` and column `n`. -/
def linear (xg : (⟨1, ![4]⟩ : Shape).Idx → EReal) (wg : (⟨1, ![1]⟩ : Shape).Idx → EReal) (seg : (⟨1, ![4]⟩ : Shape).Idx → BitVec 32) : EReal :=
  ((lowDot x xs w ws r n + highDot x xs w ws r n) * xg (ValueIdx.ix1 (groupOf (fun q => seg (ValueIdx.ix1 q)) r.val))) * wg (ValueIdx.ix1 0)

end

end Cert.Nvfp4
end
-- ==== Proof.Entry.lean ====
/-
  ONE ELEMENT OF THE KERNEL'S OUTPUT BLOCK. The kernel multiplies the two dequantised blocks over all 7168 columns at once.
  Each of its codes is a 64th of the code's value, so each product is a 4096th of the true one; the 4096 the row's scale
  carries undoes that.
-/
module

public import proofs.«01_k».proof.Proof.Block
public import proofs.«01_k».proof.Proof.Linear
public import Idealize.ShloMosaic.Lib.ValueIdx
public import Idealize.ShloMosaic.PureOps.Ideal.Laws

@[expose] public section
noncomputable section
namespace Cert.Nvfp4
open Idealize.ShloMosaic

/-- A positive real factor comes out of a sum of extended reals. -/
theorem factor_sum {ι : Type} (s : Finset ι) (f : ι → EReal) (a : ℝ) (ha : 0 ≤ a) : ∑ k ∈ s, (a : EReal) * f k = (a : EReal) * ∑ k ∈ s, f k := by
  classical
  induction s using Finset.induction_on with
  | empty => simp
  | insert k s hk ih =>
    rw [Finset.sum_insert hk, Finset.sum_insert hk, ih, EReal.left_distrib_of_nonneg_of_ne_top (EReal.coe_nonneg.mpr ha) (EReal.coe_ne_top a)]

/-- The kernel's low code is a 64th of its value. -/
theorem kernel_low (b : BitVec 8) (s : EReal) : Ideal.ofBits .fp8e4m3 (loByte b) * s = ((1 / 64 : ℝ) : EReal) * lowVal b s := by
  rw [ofBits_loByte, lowVal, ← mul_assoc, ← EReal.coe_mul]
  congr 2; ring

/-- So is its high code. -/
theorem kernel_high (b : BitVec 8) (s : EReal) : Ideal.ofBits .fp8e4m3 (hiByte b) * s = ((1 / 64 : ℝ) : EReal) * highVal b s := by
  rw [ofBits_hiByte, highVal, ← mul_assoc, ← EReal.coe_mul]
  congr 2; ring

/-- The product of two 64ths is a 4096th of the product. -/
theorem mul_64ths (u v : EReal) : (((1 / 64 : ℝ) : EReal) * u) * (((1 / 64 : ℝ) : EReal) * v) = ((1 / 4096 : ℝ) : EReal) * (u * v) := by
  rw [mul_mul_mul_comm, ← EReal.coe_mul]
  congr 2; norm_num

/-- The dot product of two dequantised rows, as the two halves of its columns. -/
theorem deq_dot {P Q : ℕ} (x : (⟨2, ![P, 3584]⟩ : Shape).Idx → BitVec 8) (xs : (⟨2, ![P, 448]⟩ : Shape).Idx → EReal)
    (w : (⟨2, ![Q, 3584]⟩ : Shape).Idx → BitVec 8) (ws : (⟨2, ![Q, 448]⟩ : Shape).Idx → EReal) (p : Fin P) (n : Fin Q) :
    ∑ k : Fin 7168, deq x xs (ValueIdx.ix2 p k) * deq w ws (ValueIdx.ix2 n k)
      = ((1 / 4096 : ℝ) : EReal) * (∑ k : Fin 3584, lowVal (x (ValueIdx.ix2 p k)) (xs (ValueIdx.ix2 p (eighth k))) * lowVal (w (ValueIdx.ix2 n k)) (ws (ValueIdx.ix2 n (eighth k)))
        + ∑ k : Fin 3584, highVal (x (ValueIdx.ix2 p k)) (xs (ValueIdx.ix2 p (eighth k))) * highVal (w (ValueIdx.ix2 n k)) (ws (ValueIdx.ix2 n (eighth k)))) := by
  rw [EReal.left_distrib_of_nonneg_of_ne_top (EReal.coe_nonneg.mpr (by norm_num)) (EReal.coe_ne_top _),
    ← factor_sum _ _ _ (by norm_num), ← factor_sum _ _ _ (by norm_num)]
  refine (Fin.sum_univ_add (a := 3584) (b := 3584) fun k => deq x xs (ValueIdx.ix2 p k) * deq w ws (ValueIdx.ix2 n k)).trans ?_
  congr 1
  · refine Finset.sum_congr rfl fun k _ => ?_
    rw [deq_lo x xs _ (ValueIdx.ix2 p k) (ValueIdx.ix2 p (eighth k)) rfl rfl rfl rfl, deq_lo w ws _ (ValueIdx.ix2 n k) (ValueIdx.ix2 n (eighth k)) rfl rfl rfl rfl,
      kernel_low, kernel_low, mul_64ths]
  · refine Finset.sum_congr rfl fun k _ => ?_
    rw [deq_hi x xs _ (ValueIdx.ix2 p k) (ValueIdx.ix2 p (eighth k)) rfl (Nat.add_comm _ _) rfl rfl,
      deq_hi w ws _ (ValueIdx.ix2 n k) (ValueIdx.ix2 n (eighth k)) rfl (Nat.add_comm _ _) rfl rfl,
      kernel_high, kernel_high, mul_64ths]

/-- The factor the row's scale carries. -/
theorem big_f32 : Ideal.ofBits .f32 0x45800000#32 = ((4096 : ℝ) : EReal) := by
  simp [Ideal.ofBits, Ideal.ieee, -EReal.coe_mul]; norm_num

/-- It undoes the 4096th of the products. -/
theorem undo_4096 (s g : EReal) : (((1 / 4096 : ℝ) : EReal) * s) * (g * ((4096 : ℝ) : EReal)) = s * g := by
  rw [mul_comm g, mul_mul_mul_comm, ← EReal.coe_mul]
  norm_num

end Cert.Nvfp4

namespace Cert.KernelIdeal.Gen
open Idealize.ShloMosaic Idealize.ShloMosaic.TcCoe Idealize.SL.Sem Cert.Nvfp4

/-- The left operand's row of a product's element. -/
theorem left_row (p : Fin 512) (n : Fin 2304) (q : dot_S512x7168_S2304x7168_S512x2304_1_1_0_0_n_n.contr.Idx) :
    (dot_S512x7168_S2304x7168_S512x2304_1_1_0_0_n_n.lhsIdx (ValueIdx.ix2 p n) q 0).val = p.val := by
  unfold DotDims.lhsIdx
  rw [dif_neg (show ¬(0 : Fin S512x7168.rank) ∈ dot_S512x7168_S2304x7168_S512x2304_1_1_0_0_n_n.lhsBatch by decide),
    dif_pos (show (0 : Fin S512x7168.rank) ∈ dot_S512x7168_S2304x7168_S512x2304_1_1_0_0_n_n.lhsNonContracting by decide)]
  rfl

/-- The right operand's row is the element's column. -/
theorem right_row (p : Fin 512) (n : Fin 2304) (q : dot_S512x7168_S2304x7168_S512x2304_1_1_0_0_n_n.contr.Idx) :
    (dot_S512x7168_S2304x7168_S512x2304_1_1_0_0_n_n.rhsIdx (ValueIdx.ix2 p n) q 0).val = n.val := by
  unfold DotDims.rhsIdx
  rw [dif_neg (show ¬(0 : Fin S2304x7168.rank) ∈ dot_S512x7168_S2304x7168_S512x2304_1_1_0_0_n_n.rhsBatch by decide),
    dif_pos (show (0 : Fin S2304x7168.rank) ∈ dot_S512x7168_S2304x7168_S512x2304_1_1_0_0_n_n.rhsNonContracting by decide)]
  rfl

/-- The matrix product at an element. -/
theorem product_at (x : Vec Ideal S512x7168 .bf16) (w : Vec Ideal S2304x7168 .bf16) (p : Fin 512) (n : Fin 2304) :
    k0_pay329 (F := Ideal) x w (ValueIdx.ix2 p n) = ∑ k : Fin 7168, (x (ValueIdx.ix2 p k) : EReal) * (w (ValueIdx.ix2 n k) : EReal) := by
  have e : k0_pay329 (F := Ideal) x w (ValueIdx.ix2 p n) = Ideal.ofBits .f32 0x00000000#32
      + ∑ q, (x (dot_S512x7168_S2304x7168_S512x2304_1_1_0_0_n_n.lhsIdx (ValueIdx.ix2 p n) q) : EReal)
        * (w (dot_S512x7168_S2304x7168_S512x2304_1_1_0_0_n_n.rhsIdx (ValueIdx.ix2 p n) q) : EReal) := rfl
  rw [e, show Ideal.ofBits .f32 0x00000000#32 = 0 by simp [Ideal.ofBits, Ideal.ieee], zero_add]
  refine (Equiv.sum_comp (ValueIdx.contrEquiv1 dot_S512x7168_S2304x7168_S512x2304_1_1_0_0_n_n 7168 rfl rfl).symm _).symm.trans ?_
  refine Finset.sum_congr rfl fun k _ => ?_
  have hk := ValueIdx.contrEquiv1_symm_val dot_S512x7168_S2304x7168_S512x2304_1_1_0_0_n_n 7168 rfl rfl k
  refine congrArg₂ (fun a b : EReal => a * b) (congrArg x (funext fun a => Fin.ext ?_)) (congrArg w (funext fun a => Fin.ext ?_))
  · match a with
    | ⟨0, _⟩ => exact left_row p n _
    | ⟨1, _⟩ => exact (dot_S512x7168_S2304x7168_S512x2304_1_1_0_0_n_n.lhsIdx_val_of_single rfl _ _).trans hk
  · match a with
    | ⟨0, _⟩ => exact right_row p n _
    | ⟨1, _⟩ => exact (dot_S512x7168_S2304x7168_S512x2304_1_1_0_0_n_n.rhsIdx_val_of_single rfl _ _).trans hk

/-- The row number of a block's row, as the kernel forms it. -/
theorem row_word (i : grid0.Coords) (p : Fin 512) (r : ℕ) (hr : r = (i 0).val * 512 + p.val) :
    k0_pay330 i (ValueIdx.ix2 p 0) = BitVec.ofNat 32 r := by
  have e : k0_pay330 i (ValueIdx.ix2 p 0) = BitVec.ofNat 32 (i 0).val * 512#32 + BitVec.ofNat 32 (0 * 512 + p.val) := rfl
  rw [e, hr, Nat.zero_mul, Nat.zero_add, BitVec.ofNat_add, BitVec.ofNat_mul]

/-- The block's element at row `p` and column `n`. -/
theorem block_at (i : grid0.Coords) (x : (⟨2, ![512, 3584]⟩ : Shape).Idx → BitVec 8) (xs : (⟨2, ![512, 448]⟩ : Shape).Idx → EReal)
    (w : (⟨2, ![2304, 3584]⟩ : Shape).Idx → BitVec 8) (ws : (⟨2, ![2304, 448]⟩ : Shape).Idx → EReal)
    (seg : Vec Ideal S4 .i32) (xg : Vec Ideal S4 .f32) (wg : Vec Ideal S1 .f32) (p : Fin 512) (n : Fin 2304)
    (r : ℕ) (hr : r = (i 0).val * 512 + p.val) (hr' : r < 8192) :
    blockOut i (deq x xs) (deq w ws) seg xg wg (ValueIdx.ix2 p n)
      = ((∑ k : Fin 3584, lowVal (x (ValueIdx.ix2 p k)) (xs (ValueIdx.ix2 p (eighth k))) * lowVal (w (ValueIdx.ix2 n k)) (ws (ValueIdx.ix2 n (eighth k)))
        + ∑ k : Fin 3584, highVal (x (ValueIdx.ix2 p k)) (xs (ValueIdx.ix2 p (eighth k))) * highVal (w (ValueIdx.ix2 n k)) (ws (ValueIdx.ix2 n (eighth k))))
        * (xg (ValueIdx.ix1 (groupOf (fun q => seg (ValueIdx.ix1 q)) r)) : EReal)) * (wg (ValueIdx.ix1 0) : EReal) := by
  rw [← undo_4096 _ (xg _ : EReal), ← deq_dot, ← big_f32]
  refine Eq.trans ?_ (congrArg₂ (fun a b : EReal => a * b * (wg (ValueIdx.ix1 0) : EReal)) (product_at (deq x xs) (deq w ws) p n)
    (select_group (fun q => seg (ValueIdx.ix1 q)) r hr' (fun q => (xg (ValueIdx.ix1 q) : EReal) * Ideal.ofBits .f32 0x45800000#32)))
  rw [← row_word i p r hr]
  unfold blockOut k0_pay1
  rfl

end Cert.KernelIdeal.Gen
end
-- ==== Proof.Rows.lean ====
/-
  THE BLOCKS THE KERNEL READS. The two activation arrays are first viewed with their rows in one column of 8192; point `t`
  reads rows `512 t` to `512 t + 511` of them, and every other argument whole.
-/
module

public import proofs.«01_k».proof.Proof.Entry
public import Idealize.ShloMosaic.Lib.Pipeline.Value
public import Idealize.ShloMosaic.Lib.StableHlo.Run

@[expose] public section
noncomputable section
namespace Cert.KernelIdeal.Gen
open Idealize.ShloMosaic Idealize.ShloMosaic.TcCoe Idealize.SL.Sem Cert.Nvfp4

variable (m : (ℓ : Loc nD τ sig) → Buf (Elt Ideal) ℓ) (c : Dev nD)

/-- The codes in rows. -/
theorem codes_rows : V m c main_v0 = (shapeCast S8192x3584 (m ((c : Thread nD τ).loc main_arg0) : S2x4096x3584.Idx → BitVec 8) shapeCasts_S2x4096x3584_S8192x3584 : S8192x3584.Idx → BitVec 8) := by
  simp only [V, hostOps0]
  after_results_simp
  rfl

/-- The scales in rows. -/
theorem scales_rows : V m c main_v1 = (shapeCast S8192x448 (m ((c : Thread nD τ).loc main_arg1) : S2x4096x448.Idx → EReal) shapeCasts_S2x4096x448_S8192x448 : S8192x448.Idx → EReal) := by
  simp only [V, hostOps0]
  after_results_simp
  rfl

/-- Row `r` of the one column is row `r % 4096` of batch `r / 4096`. -/
theorem row_of_batch {α : Type} {C : ℕ} (x : (⟨3, ![2, 4096, C]⟩ : Shape).Idx → α) (h : (⟨3, ![2, 4096, C]⟩ : Shape).ShapeCasts ⟨2, ![8192, C]⟩)
    (r : Fin 8192) (k : Fin C) : shapeCast ⟨2, ![8192, C]⟩ x h (ValueIdx.ix2 r k) = x (ValueIdx.ix3 (batchOf r) (rowOf r) k) := by
  refine shapeCast_apply x h _ _ ?_
  rw [Shape.rowMajor_val_three, Shape.rowMajor_val_two]
  show (r.val / 4096 * 4096 + r.val % 4096) * C + k.val = r.val * C + k.val
  rw [show r.val / 4096 * 4096 + r.val % 4096 = r.val from by omega]

/-- The block of codes point `t` reads. -/
theorem iblk_codes (t : Fin cfg0.N) (p : Fin 512) (k : Fin 3584) (r : Fin 8192) (hr : r.val = t.val * 512 + p.val) :
    iblk m c 3 t (ValueIdx.ix2 p k) = (m ((c : Thread nD τ).loc main_arg0) : S2x4096x3584.Idx → BitVec 8) (ValueIdx.ix3 (batchOf r) (rowOf r) k) := by
  have ht : win0_3.index t 0 = t.val ∧ win0_3.index t 1 = 0 := (by decide +kernel : ∀ t : Fin grid0.N, win0_3.index t 0 = t.val ∧ win0_3.index t 1 = 0) t
  show (V m c main_v0 : S8192x3584.Idx → BitVec 8) (((cfg0.win 3).blk t).view.emb (ValueIdx.ix2 p k)) = _
  rw [codes_rows]
  refine Eq.trans (congrArg _ (idx2_ext ?_ ?_)) (row_of_batch _ shapeCasts_S2x4096x3584_S8192x3584 r k)
  · show win0_3.index t 0 * 512 + 1 * p.val = r.val
    omega
  · show win0_3.index t 1 * 3584 + 1 * k.val = k.val
    omega

/-- The block of scales point `t` reads. -/
theorem iblk_scales (t : Fin cfg0.N) (p : Fin 512) (k : Fin 448) (r : Fin 8192) (hr : r.val = t.val * 512 + p.val) :
    iblk m c 4 t (ValueIdx.ix2 p k) = (m ((c : Thread nD τ).loc main_arg1) : S2x4096x448.Idx → EReal) (ValueIdx.ix3 (batchOf r) (rowOf r) k) := by
  have ht : win0_4.index t 0 = t.val ∧ win0_4.index t 1 = 0 := (by decide +kernel : ∀ t : Fin grid0.N, win0_4.index t 0 = t.val ∧ win0_4.index t 1 = 0) t
  show (V m c main_v1 : S8192x448.Idx → EReal) (((cfg0.win 4).blk t).view.emb (ValueIdx.ix2 p k)) = _
  rw [scales_rows]
  refine Eq.trans (congrArg _ (idx2_ext ?_ ?_)) (row_of_batch _ shapeCasts_S2x4096x448_S8192x448 r k)
  · show win0_4.index t 0 * 512 + 1 * p.val = r.val
    omega
  · show win0_4.index t 1 * 448 + 1 * k.val = k.val
    omega

/-- The other arguments, read whole. -/
theorem iblk_starts (t : Fin cfg0.N) : iblk m c 0 t = m ((c : Thread nD τ).loc main_arg6) := by
  show (win0_0.blk t).view.read (Elt Ideal) (V m c main_arg6) = _
  rw [V_main_arg6]
  exact Memref.read_access_unit_zero (Elt Ideal) main_arg6
    (funext fun a => (by decide +kernel : ∀ (t : Fin grid0.N) (a : Fin 1), win0_0.index t a * main_arg6.ty.shape.size a = 0) t a) (fun a => by fin_cases a; decide +revert +kernel) _
theorem iblk_globals (t : Fin cfg0.N) : iblk m c 1 t = m ((c : Thread nD τ).loc main_arg2) := by
  show (win0_1.blk t).view.read (Elt Ideal) (V m c main_arg2) = _
  rw [V_main_arg2]
  exact Memref.read_access_unit_zero (Elt Ideal) main_arg2
    (funext fun a => (by decide +kernel : ∀ (t : Fin grid0.N) (a : Fin 1), win0_1.index t a * main_arg2.ty.shape.size a = 0) t a) (fun a => by fin_cases a; decide +revert +kernel) _
theorem iblk_global (t : Fin cfg0.N) : iblk m c 2 t = m ((c : Thread nD τ).loc main_arg5) := by
  show (win0_2.blk t).view.read (Elt Ideal) (V m c main_arg5) = _
  rw [V_main_arg5]
  exact Memref.read_access_unit_zero (Elt Ideal) main_arg5
    (funext fun a => (by decide +kernel : ∀ (t : Fin grid0.N) (a : Fin 1), win0_2.index t a * main_arg5.ty.shape.size a = 0) t a) (fun a => by fin_cases a; decide +revert +kernel) _
theorem iblk_weights (t : Fin cfg0.N) : iblk m c 5 t = m ((c : Thread nD τ).loc main_arg3) := by
  show (win0_5.blk t).view.read (Elt Ideal) (V m c main_arg3) = _
  rw [V_main_arg3]
  exact Memref.read_access_unit_zero (Elt Ideal) main_arg3
    (funext fun a => (by decide +kernel : ∀ (t : Fin grid0.N) (a : Fin 2), win0_5.index t a * main_arg3.ty.shape.size a = 0) t a) (fun a => by fin_cases a <;> decide +revert +kernel) _
theorem iblk_wscales (t : Fin cfg0.N) : iblk m c 6 t = m ((c : Thread nD τ).loc main_arg4) := by
  show (win0_6.blk t).view.read (Elt Ideal) (V m c main_arg4) = _
  rw [V_main_arg4]
  exact Memref.read_access_unit_zero (Elt Ideal) main_arg4
    (funext fun a => (by decide +kernel : ∀ (t : Fin grid0.N) (a : Fin 2), win0_6.index t a * main_arg4.ty.shape.size a = 0) t a) (fun a => by fin_cases a <;> decide +revert +kernel) _

end Cert.KernelIdeal.Gen
end
-- ==== Proof.Array.lean ====
/-
  WHAT THE KERNEL'S ARRAY HOLDS. The first point fills the scratch with the dequantised weights and no later point changes it,
  so every point's block is the product of its own rows with those weights; and the array is made of the sixteen blocks.
-/
module

public import proofs.«01_k».proof.Proof.Rows

@[expose] public section
noncomputable section
namespace Cert.KernelIdeal.Gen
open Cert.KernelIdeal.Value Idealize.ShloMosaic Idealize.ShloMosaic.TcCoe Idealize.SL.Sem Cert.Nvfp4

variable (m : (ℓ : Loc nD τ sig) → Buf (Elt Ideal) ℓ) (c : Dev nD)

/-- The dequantised weights. -/
def weights : Vec Ideal S2304x7168 .bf16 :=
  deq (m ((c : Thread nD τ).loc main_arg3) : S2304x3584.Idx → BitVec 8) (m ((c : Thread nD τ).loc main_arg4) : S2304x448.Idx → EReal)

/-- The block point `t` writes. -/
def rowsOut (t : Fin cfg0.N) : Vec Ideal S512x2304 .bf16 :=
  blockOut (grid0.coords t) (deq (iblk m c 3 t) (iblk m c 4 t)) (weights m c) (m ((c : Thread nD τ).loc main_arg6)) (m ((c : Thread nD τ).loc main_arg2))
    (m ((c : Thread nD τ).loc main_arg5))

/-- The first point: its block, and the weights left in the scratch. -/
theorem first_point (t : Fin cfg0.N) (h0 : t.val % 16 = 0) : outsAt0 m c t.val t.isLt = (rowsOut m c t, weights m c) := by
  rw [outsAt0_A m c t h0, out_A, scratch_A, iblk_starts, iblk_globals, iblk_global, iblk_weights, iblk_wscales]
  rfl

/-- A later point over a scratch that holds the weights: its block, and the scratch kept. -/
theorem later_point (t : Fin cfg0.N) (h0 : ¬t.val % 16 = 0)
    (hs : (outsAt0 m c (t.val - 1) (Nat.lt_of_le_of_lt (Nat.sub_le _ _) t.isLt)).2 = weights m c) : outsAt0 m c t.val t.isLt = (rowsOut m c t, weights m c) := by
  rw [outsAt0_B m c t h0, out_B, scratch_B, hs, iblk_starts, iblk_globals, iblk_global]
  rfl

/-- Every point. -/
theorem every_point : ∀ (n : ℕ) (hn : n < cfg0.N), outsAt0 m c n hn = (rowsOut m c ⟨n, hn⟩, weights m c)
  | 0, hn => first_point m c ⟨0, hn⟩ rfl
  | n + 1, hn => later_point m c ⟨n + 1, hn⟩ (by have h : n + 1 < 16 := hn; show ¬(n + 1) % 16 = 0; omega)
      (congrArg Prod.snd (every_point n (Nat.lt_of_succ_lt hn)))

/-- The array at row `r` and column `n`. -/
theorem array_at (r : Fin 8192) (n : Fin 2304) :
    G7 m c (ValueIdx.ix2 r n) = linear (m ((c : Thread nD τ).loc main_arg0)) (m ((c : Thread nD τ).loc main_arg1)) (m ((c : Thread nD τ).loc main_arg3))
      (m ((c : Thread nD τ).loc main_arg4)) r n (m ((c : Thread nD τ).loc main_arg2)) (m ((c : Thread nD τ).loc main_arg5)) (m ((c : Thread nD τ).loc main_arg6)) := by
  have hr := r.isLt
  have hN : r.val / 512 < cfg0.N := (by omega : r.val / 512 < 16)
  have hpt : pt7Of (ValueIdx.ix2 r n) = r.val / 512 := by
    show 1 * (r.val / 512 - 0) + 1 * (n.val / 2304 - 0) = r.val / 512
    have := n.isLt
    omega
  have hloc : loc7Of (ValueIdx.ix2 r n) = ValueIdx.ix2 (⟨r.val % 512, Nat.mod_lt _ (by decide)⟩ : Fin 512) n :=
    idx2_ext rfl (Nat.mod_eq_of_lt n.isLt)
  have hg : G7 m c (ValueIdx.ix2 r n) = (rowsOut m c ⟨r.val / 512, hN⟩) (ValueIdx.ix2 (⟨r.val % 512, Nat.mod_lt _ (by decide)⟩ : Fin 512) n) := by
    unfold G7
    rw [dif_pos (by rw [hpt]; exact hN), hloc, fold0_congr m c _ _ _ (by rw [Nat.zero_add]; exact hN) hpt,
      show rowsOut m c ⟨r.val / 512, hN⟩ = (outsAt0 m c (r.val / 512) hN).1 from (congrArg Prod.fst (every_point m c _ hN)).symm, outsAt0_sweep]
  have hrow : r.val = r.val / 512 * 512 + r.val % 512 := by omega
  have hi : (grid0.coords (⟨r.val / 512, hN⟩ : Fin cfg0.N) 0).val = r.val / 512 :=
    (by decide +kernel : ∀ t : Fin grid0.N, (grid0.coords t 0).val = t.val) ⟨r.val / 512, hN⟩
  rw [hg]
  refine (block_at _ _ _ _ _ _ _ _ _ n r.val (by rw [hi]; exact hrow) hr).trans ?_
  have hx : ∀ k : Fin 3584, iblk m c 3 ⟨r.val / 512, hN⟩ (ValueIdx.ix2 (⟨r.val % 512, Nat.mod_lt _ (by decide)⟩ : Fin 512) k) = _ :=
    fun k => iblk_codes m c ⟨r.val / 512, hN⟩ ⟨r.val % 512, Nat.mod_lt _ (by decide)⟩ k r hrow
  have hs : ∀ k : Fin 448, iblk m c 4 ⟨r.val / 512, hN⟩ (ValueIdx.ix2 (⟨r.val % 512, Nat.mod_lt _ (by decide)⟩ : Fin 512) k) = _ :=
    fun k => iblk_scales m c ⟨r.val / 512, hN⟩ ⟨r.val % 512, Nat.mod_lt _ (by decide)⟩ k r hrow
  unfold linear lowDot highDot
  simp only [hx, hs]

end Cert.KernelIdeal.Gen
end
-- ==== Proof.RefCodes.lean ====
/-
  WHAT THE REFERENCE DECODES. The reference takes a code's sign, exponent and mantissa apart with integer operations and
  puts the value together as a whole number of halves. Here that integer is `halves` of the code, for the low and the high
  code of a byte; so an element of a decoded array is that many halves times its group's scale.
-/
module

public import proofs.«01_k».proof.Proof.Decode
public import proofs.«01_k».proof.Proof.Gen.ReferenceIdeal.Read

@[expose] public section
noncomputable section
namespace Cert.Nvfp4
open Idealize.ShloMosaic Cert.ReferenceIdeal Cert.ReferenceIdeal.Gen Cert.ReferenceIdeal.Read

/-- The reference's integer for a four-bit code held in a word. -/
def halvesWord (v : BitVec 32) : BitVec 32 :=
  let e := IntOp.andi (IntOp.shrsi .host v 1#32) 3#32
  IntOp.muli (IntOp.subi 1#32 (IntOp.muli 2#32 (IntOp.shrsi .host v 3#32)))
    (IntOp.shli .host (IntOp.addi (IntOp.andi v 1#32) (IntOp.muli 2#32 (IntOp.minsi e 1#32))) (IntOp.subi (IntOp.maxsi e 1#32) 1#32))

theorem halvesWord_lo : ∀ b : BitVec 8, (halvesWord (IntOp.andi (b.setWidth 32) 15#32)).toInt = halves (b.toNat % 16) := by
  decide +kernel

theorem halvesWord_hi : ∀ b : BitVec 8, (halvesWord (IntOp.shrsi .host (b.setWidth 32) 4#32)).toInt = halves (b.toNat / 16) := by
  decide +kernel

/-- The half the reference multiplies by. -/
theorem half_bf16 : Ideal.ofBits .bf16 0x3F00#16 = ((1 / 2 : ℝ) : EReal) := by
  simp [Ideal.ofBits, Ideal.ieee, -EReal.coe_mul]; norm_num

/-- A row's byte and its group's scale, under the regrouping of the bytes by eight. -/
theorem byte_of_group3 (i : S2x4096x3584.Idx) : idx_main_v31 (idx_main_v35 i) = i := by
  have h0 : (i 0).val < 2 := (i 0).isLt
  have h1 : (i 1).val < 4096 := (i 1).isLt
  have h2 : (i 2).val < 3584 := (i 2).isLt
  have e : ((((idx_main_v35 i 0).val * 4096 + (idx_main_v35 i 1).val) * 448 + (idx_main_v35 i 2).val) * 8 + (idx_main_v35 i 3).val)
      = ((i 0).val * 4096 + (i 1).val) * 3584 + (i 2).val := by
    show ((((((i 0).val * 4096 + (i 1).val) * 3584 + (i 2).val) / 14680064 * 4096 + (((i 0).val * 4096 + (i 1).val) * 3584 + (i 2).val) / 3584 % 4096) * 448
      + (((i 0).val * 4096 + (i 1).val) * 3584 + (i 2).val) / 8 % 448) * 8 + (((i 0).val * 4096 + (i 1).val) * 3584 + (i 2).val) % 8) = _
    omega
  funext a
  refine Fin.ext ?_
  match a with
  | ⟨0, _⟩ => show (_ / 14680064 : ℕ) = (i 0).val; rw [e]; omega
  | ⟨1, _⟩ => show (_ / 3584 % 4096 : ℕ) = (i 1).val; rw [e]; omega
  | ⟨2, _⟩ => show (_ % 3584 : ℕ) = (i 2).val; rw [e]; omega

theorem scale_of_group3 (i : S2x4096x3584.Idx) :
    idx_main_v32 (idx_main_v33 (idx_main_v35 i)) = ValueIdx.ix3 (i 0) (i 1) ⟨(i 2).val / 8, by have h2 : (i 2).val < 3584 := (i 2).isLt; omega⟩ := by
  have h0 : (i 0).val < 2 := (i 0).isLt
  have h1 : (i 1).val < 4096 := (i 1).isLt
  have h2 : (i 2).val < 3584 := (i 2).isLt
  funext a
  refine Fin.ext ?_
  match a with
  | ⟨0, _⟩ => show (((i 0).val * 4096 + (i 1).val) * 3584 + (i 2).val) / 14680064 = (i 0).val; omega
  | ⟨1, _⟩ => show (((i 0).val * 4096 + (i 1).val) * 3584 + (i 2).val) / 3584 % 4096 = (i 1).val; omega
  | ⟨2, _⟩ => show (((i 0).val * 4096 + (i 1).val) * 3584 + (i 2).val) / 8 % 448 = (i 2).val / 8; omega

theorem byte_of_group2 (i : S2304x3584.Idx) : idx_main_v97 (idx_main_v101 i) = i := by
  have h0 : (i 0).val < 2304 := (i 0).isLt
  have h1 : (i 1).val < 3584 := (i 1).isLt
  have e : (((idx_main_v101 i 0).val * 448 + (idx_main_v101 i 1).val) * 8 + (idx_main_v101 i 2).val) = (i 0).val * 3584 + (i 1).val := by
    show ((((i 0).val * 3584 + (i 1).val) / 3584 * 448 + ((i 0).val * 3584 + (i 1).val) / 8 % 448) * 8 + ((i 0).val * 3584 + (i 1).val) % 8) = _
    omega
  funext a
  refine Fin.ext ?_
  match a with
  | ⟨0, _⟩ => show (_ / 3584 : ℕ) = (i 0).val; rw [e]; omega
  | ⟨1, _⟩ => show (_ % 3584 : ℕ) = (i 1).val; rw [e]; omega

theorem scale_of_group2 (i : S2304x3584.Idx) :
    idx_main_v98 (idx_main_v99 (idx_main_v101 i)) = ValueIdx.ix2 (i 0) ⟨(i 1).val / 8, by have h1 : (i 1).val < 3584 := (i 1).isLt; omega⟩ := by
  have h0 : (i 0).val < 2304 := (i 0).isLt
  have h1 : (i 1).val < 3584 := (i 1).isLt
  funext a
  refine Fin.ext ?_
  match a with
  | ⟨0, _⟩ => show ((i 0).val * 3584 + (i 1).val) / 3584 = (i 0).val; omega
  | ⟨1, _⟩ => show ((i 0).val * 3584 + (i 1).val) / 8 % 448 = (i 1).val / 8; omega

/-- A low code of the activations, before the scale. -/
theorem code_x_lo (x0 : S2x4096x3584.Idx → BitVec 8) (i : S2x4096x3584.Idx) :
    val_main_v30 (F := Ideal) x0 i = (((halves ((x0 i).toNat % 16) : ℝ) * (1 / 2) : ℝ) : EReal) := by
  rw [← halvesWord_lo, EReal.coe_mul, ← half_bf16]
  rw [val_main_v30_apply, val_main_v29_apply]
  rfl

/-- A high code of the activations, before the scale. -/
theorem code_x_hi (x0 : S2x4096x3584.Idx → BitVec 8) (i : S2x4096x3584.Idx) :
    val_main_v63 (F := Ideal) x0 i = (((halves ((x0 i).toNat / 16) : ℝ) * (1 / 2) : ℝ) : EReal) := by
  rw [← halvesWord_hi, EReal.coe_mul, ← half_bf16]
  rw [val_main_v63_apply, val_main_v62_apply]
  rfl

/-- A low code of the weights, before the scale. -/
theorem code_w_lo (x3 : S2304x3584.Idx → BitVec 8) (i : S2304x3584.Idx) :
    val_main_v96 (F := Ideal) x3 i = (((halves ((x3 i).toNat % 16) : ℝ) * (1 / 2) : ℝ) : EReal) := by
  rw [← halvesWord_lo, EReal.coe_mul, ← half_bf16]
  rw [val_main_v96_apply, val_main_v95_apply]
  rfl

/-- A high code of the weights, before the scale. -/
theorem code_w_hi (x3 : S2304x3584.Idx → BitVec 8) (i : S2304x3584.Idx) :
    val_main_v129 (F := Ideal) x3 i = (((halves ((x3 i).toNat / 16) : ℝ) * (1 / 2) : ℝ) : EReal) := by
  rw [← halvesWord_hi, EReal.coe_mul, ← half_bf16]
  rw [val_main_v129_apply, val_main_v128_apply]
  rfl

/-- A low code of the activations times its group's scale. -/
theorem x_lo (x0 : S2x4096x3584.Idx → BitVec 8) (r0 : S2x4096x448.Idx → EReal) (i : S2x4096x3584.Idx) :
    val_main_v35 (F := Ideal) x0 r0 i = (((halves ((x0 i).toNat % 16) : ℝ) * (1 / 2) : ℝ) : EReal) * r0 (ValueIdx.ix3 (i 0) (i 1) ⟨(i 2).val / 8, by have h2 : (i 2).val < 3584 := (i 2).isLt; omega⟩) := by
  rw [val_main_v35_apply, val_main_v34_apply, val_main_v31_apply, val_main_v33_apply, val_main_v32_apply, byte_of_group3, scale_of_group3, code_x_lo]
  rfl

/-- A high code of the activations times its group's scale. -/
theorem x_hi (x0 : S2x4096x3584.Idx → BitVec 8) (r0 : S2x4096x448.Idx → EReal) (i : S2x4096x3584.Idx) :
    val_main_v68 (F := Ideal) x0 r0 i = (((halves ((x0 i).toNat / 16) : ℝ) * (1 / 2) : ℝ) : EReal) * r0 (ValueIdx.ix3 (i 0) (i 1) ⟨(i 2).val / 8, by have h2 : (i 2).val < 3584 := (i 2).isLt; omega⟩) := by
  rw [val_main_v68_apply, val_main_v67_apply, val_main_v64_apply, val_main_v66_apply, val_main_v65_apply,
    show idx_main_v64 (idx_main_v68 i) = i from byte_of_group3 i, show idx_main_v65 (idx_main_v66 (idx_main_v68 i)) = _ from scale_of_group3 i, code_x_hi]
  rfl

/-- A low code of the weights times its group's scale. -/
theorem w_lo (x3 : S2304x3584.Idx → BitVec 8) (r1 : S2304x448.Idx → EReal) (i : S2304x3584.Idx) :
    val_main_v101 (F := Ideal) x3 r1 i = (((halves ((x3 i).toNat % 16) : ℝ) * (1 / 2) : ℝ) : EReal) * r1 (ValueIdx.ix2 (i 0) ⟨(i 1).val / 8, by have h1 : (i 1).val < 3584 := (i 1).isLt; omega⟩) := by
  rw [val_main_v101_apply, val_main_v100_apply, val_main_v97_apply, val_main_v99_apply, val_main_v98_apply, byte_of_group2, scale_of_group2, code_w_lo]
  rfl

/-- A high code of the weights times its group's scale. -/
theorem w_hi (x3 : S2304x3584.Idx → BitVec 8) (r1 : S2304x448.Idx → EReal) (i : S2304x3584.Idx) :
    val_main_v134 (F := Ideal) x3 r1 i = (((halves ((x3 i).toNat / 16) : ℝ) * (1 / 2) : ℝ) : EReal) * r1 (ValueIdx.ix2 (i 0) ⟨(i 1).val / 8, by have h1 : (i 1).val < 3584 := (i 1).isLt; omega⟩) := by
  rw [val_main_v134_apply, val_main_v133_apply, val_main_v130_apply, val_main_v132_apply, val_main_v131_apply,
    show idx_main_v130 (idx_main_v134 i) = i from byte_of_group2 i, show idx_main_v131 (idx_main_v132 (idx_main_v134 i)) = _ from scale_of_group2 i, code_w_hi]
  rfl

end Cert.Nvfp4
end
-- ==== Proof.Ref.lean ====
/-
  WHAT THE REFERENCE COMPUTES, at one element: the sum of the two products of decoded halves, times the scale of the row's
  group, times the weights' scale.
-/
module

public import proofs.«01_k».proof.Proof.Linear
public import proofs.«01_k».proof.Proof.RefCodes

@[expose] public section
noncomputable section
namespace Cert.Nvfp4
open Idealize.ShloMosaic Idealize.ShloMosaic.StableHlo.Predicate Cert.ReferenceIdeal Cert.ReferenceIdeal.Gen Cert.ReferenceIdeal.Read

/-- The four starts of the groups, by group. -/
abbrev starts (x6 : S4.Idx → BitVec 32) (q : Fin 4) : BitVec 32 := x6 (ValueIdx.ix1 q)

/-- The reference's count at a row is how many starts are at or before it. -/
theorem count_toNat (x6 : S4.Idx → BitVec 32) (r : Fin 8192) :
    (val_main_v139 (F := Ideal) x6 (ValueIdx.ix1 r)).toNat = started (starts x6) r.val := by
  unfold val_main_v139 val_main_call0_call0_v5 val_main_call0_call0_c
  rw [toNat_reduce_count_rows (by norm_num)]
  unfold started
  congr 1
  refine Finset.filter_congr fun q _ => ?_
  rw [val_main_call0_call0_v4_apply, val_main_call0_call0_v2_apply, val_main_call0_call0_v1_apply, val_main_call0_call0_v3_apply,
    val_main_call0_call0_v0_apply, val_main_v138_apply, WordCmp.cmpi_sle_eq]
  have e : idx_main_call0_call0_v1 (idx_main_call0_call0_v2 (ij q ((ValueIdx.ix1 r : S8192.Idx) 0))) = ValueIdx.ix1 q := by
    funext a; match a with | ⟨0, _⟩ => rfl
  rw [e]
  show BitVec.ofBool (decide ((x6 (ValueIdx.ix1 q)).toInt ≤ (BitVec.ofNat 32 r.val).toInt)) = 1#1 ↔ _
  rw [toInt_row r.val r.isLt]
  by_cases h : (x6 (ValueIdx.ix1 q)).toInt ≤ (r.val : ℤ) <;> simp [h, starts]

/-- The scale the reference reads for a row, the starts in order. -/
theorem row_scale (x2 : S4.Idx → EReal) (x6 : S4.Idx → BitVec 32) (h01 : (starts x6 0).toInt ≤ (starts x6 1).toInt)
    (h12 : (starts x6 1).toInt ≤ (starts x6 2).toInt) (h23 : (starts x6 2).toInt ≤ (starts x6 3).toInt) (r : Fin 8192) :
    val_main_v148 (F := Ideal) x2 x6 (ValueIdx.ix1 r) = x2 (ValueIdx.ix1 (groupOf (starts x6) r.val)) := by
  unfold val_main_v148
  have e1 : (ValueIdx.ix1 r : S8192.Idx) = Shape.Idx.ofFin r := by funext a; match a with | ⟨0, _⟩ => rfl
  rw [e1, gather_take (N := 4) (n := 8192) _ rfl rfl rfl rfl _ _ r (by norm_num)]
  refine congrArg x2 ?_
  funext a
  match a with
  | ⟨0, _⟩ =>
    refine Fin.ext ?_
    show min (val_main_v147 (F := Ideal) x6 (ixP r)).toInt.toNat (4 - 1) = (groupOf (starts x6) r.val).val
    rw [← started_group _ h01 h12 h23, ← count_toNat]
    rw [← step_back _ (by rw [count_toNat]; exact started_le _ _)]
    rw [val_main_v147_apply, val_main_v146_apply, val_main_v143_apply, val_main_v145_apply, val_main_v141_apply, val_main_v140_apply,
      val_main_v142_apply, val_main_v144_apply]
    have e2 : idx_main_v147 (ixP r) = ValueIdx.ix1 r := by funext a; match a with | ⟨0, _⟩ => rfl
    rw [e2]
    rfl

/-- The weights' scale, read out of its one-element array. -/
theorem weight_scale (x5 : S1.Idx → EReal) (j : S_.Idx) : val_main_v152 (F := Ideal) x5 j = x5 (ValueIdx.ix1 0) := by
  unfold val_main_v152
  refine congrArg x5 ?_
  funext a
  match a with | ⟨0, _⟩ => exact Subsingleton.elim (α := Fin 1) _ _

/-- The reference's element at row `r` and column `n`. -/
theorem reference_at (x0 : S2x4096x3584.Idx → BitVec 8) (r0 : S2x4096x448.Idx → EReal) (x2 : S4.Idx → EReal) (x3 : S2304x3584.Idx → BitVec 8)
    (r1 : S2304x448.Idx → EReal) (x5 : S1.Idx → EReal) (x6 : S4.Idx → BitVec 32) (h01 : (starts x6 0).toInt ≤ (starts x6 1).toInt)
    (h12 : (starts x6 1).toInt ≤ (starts x6 2).toInt) (h23 : (starts x6 2).toInt ≤ (starts x6 3).toInt) (r : Fin 8192) (n : Fin 2304) :
    val_main_v156 (F := Ideal) x0 x2 x3 x5 x6 r0 r1 (ValueIdx.ix2 r n) = linear x0 r0 x3 r1 r n x2 x5 x6 := by
  have ei : idx_main_v156 (ValueIdx.ix2 r n) = ValueIdx.ix3 (batchOf r) (rowOf r) n := by
    have h0 := r.isLt
    have h1 := n.isLt
    funext a
    refine Fin.ext ?_
    match a with
    | ⟨0, _⟩ => show (r.val * 2304 + n.val) / 9437184 = r.val / 4096; omega
    | ⟨1, _⟩ => show (r.val * 2304 + n.val) / 2304 % 4096 = r.val % 4096; omega
    | ⟨2, _⟩ => show (r.val * 2304 + n.val) % 2304 = n.val; omega
  rw [val_main_v156_apply, ei, val_main_v155_apply, val_main_v154_apply, val_main_v151_apply, val_main_v137_apply, val_main_v153_apply,
    weight_scale, val_main_v150_apply, val_main_v149_apply, val_main_v135_apply, val_main_v136_apply]
  have er : idx_main_v149 (idx_main_v150 (ValueIdx.ix3 (batchOf r) (rowOf r) n)) = ValueIdx.ix1 r := by
    funext a
    refine Fin.ext ?_
    match a with
    | ⟨0, _⟩ => show (r.val / 4096 * 4096 + r.val % 4096) * 1 + 0 = r.val; omega
  rw [er, row_scale x2 x6 h01 h12 h23]
  have el : ∀ k : Fin 3584, lidx_main_v135 (ValueIdx.ix3 (batchOf r) (rowOf r) n) k = ValueIdx.ix3 (batchOf r) (rowOf r) k := fun k => by
    funext a; match a with | ⟨0, _⟩ => rfl | ⟨1, _⟩ => rfl | ⟨2, _⟩ => rfl
  have ew : ∀ k : Fin 3584, ridx_main_v135 (ValueIdx.ix3 (batchOf r) (rowOf r) n) k = ValueIdx.ix2 n k := fun k => by
    funext a; match a with | ⟨0, _⟩ => rfl | ⟨1, _⟩ => rfl
  have lo : (∑ k : Fin 3584, val_main_v35 (F := Ideal) x0 r0 (lidx_main_v135 (ValueIdx.ix3 (batchOf r) (rowOf r) n) k)
      * val_main_v101 (F := Ideal) x3 r1 (ridx_main_v135 (ValueIdx.ix3 (batchOf r) (rowOf r) n) k)) = lowDot x0 r0 x3 r1 r n :=
    Finset.sum_congr rfl fun k _ => by rw [el, ew, x_lo, w_lo]; rfl
  have hi : (∑ k : Fin 3584, val_main_v68 (F := Ideal) x0 r0 (lidx_main_v136 (ValueIdx.ix3 (batchOf r) (rowOf r) n) k)
      * val_main_v134 (F := Ideal) x3 r1 (ridx_main_v136 (ValueIdx.ix3 (batchOf r) (rowOf r) n) k)) = highDot x0 r0 x3 r1 r n :=
    Finset.sum_congr rfl fun k _ => by
      rw [show lidx_main_v136 (ValueIdx.ix3 (batchOf r) (rowOf r) n) k = _ from el k, show ridx_main_v136 (ValueIdx.ix3 (batchOf r) (rowOf r) n) k = _ from ew k,
        x_hi, w_hi]
      rfl
  rw [lo, hi]
  rfl

end Cert.Nvfp4
end
-- ==== Proof.RefScales.lean ====
/-
  THE REFERENCE'S SCALES. The reference first turns both scale arrays into wider floats, each read whole and written whole
  in one step. Reading a float as its value, that step copies: each widened array is its argument.
-/
module

public import proofs.«01_k».proof.Proof.Gen.ReferenceIdeal.Run
public import Idealize.ShloMosaic.Lib.Pipeline.Value
public import Idealize.ShloMosaic.PureOps.Ideal.Laws

@[expose] public section
noncomputable section
namespace Cert.ReferenceIdeal.Gen
open Cert.ReferenceIdeal Cert.ReferenceIdeal.Value Idealize.ShloMosaic Idealize.ShloMosaic.TcCoe Idealize.SL.Sem

variable (m : (ℓ : Loc nD τ sig) → Buf (Elt Ideal) ℓ) (c : Dev nD)

/-- The one point's block of each window is the whole buffer. -/
theorem read_xs (f : Buf (Elt Ideal) ((c : Thread nD τ).loc main_arg1)) : (win0_0.blk t0_0).view.read (Elt Ideal) f = f :=
  Memref.read_access_unit_zero (Elt Ideal) main_arg1
    (show (fun a => (win0_0.index t0_0) a * main_arg1.ty.shape.size a) = fun _ => 0 from funext fun a => by fin_cases a <;> decide)
    (fun a => by fin_cases a <;> decide) f
theorem read_ws (f : Buf (Elt Ideal) ((c : Thread nD τ).loc main_arg4)) : (win0_1.blk t0_0).view.read (Elt Ideal) f = f :=
  Memref.read_access_unit_zero (Elt Ideal) main_arg4
    (show (fun a => (win0_1.index t0_0) a * main_arg4.ty.shape.size a) = fun _ => 0 from funext fun a => by fin_cases a <;> decide)
    (fun a => by fin_cases a <;> decide) f
theorem read_xs_wide (f : Buf (Elt Ideal) ((c : Thread nD τ).loc main_v0_0)) : (win0_2.blk t0_0).view.read (Elt Ideal) f = f :=
  Memref.read_access_unit_zero (Elt Ideal) main_v0_0
    (show (fun a => (win0_2.index t0_0) a * main_v0_0.ty.shape.size a) = fun _ => 0 from funext fun a => by fin_cases a <;> decide)
    (fun a => by fin_cases a <;> decide) f
theorem read_ws_wide (f : Buf (Elt Ideal) ((c : Thread nD τ).loc main_v0_1)) : (win0_3.blk t0_0).view.read (Elt Ideal) f = f :=
  Memref.read_access_unit_zero (Elt Ideal) main_v0_1
    (show (fun a => (win0_3.index t0_0) a * main_v0_1.ty.shape.size a) = fun _ => 0 from funext fun a => by fin_cases a <;> decide)
    (fun a => by fin_cases a <;> decide) f

/-- So the point reads the two arguments whole. -/
theorem block_xs : iblk m c 0 t0_0 = m ((c : Thread nD τ).loc main_arg1) := by
  show (win0_0.blk t0_0).view.read (Elt Ideal) (V m c main_arg1) = _
  rw [V_main_arg1]; exact read_xs c _
theorem block_ws : iblk m c 1 t0_0 = m ((c : Thread nD τ).loc main_arg4) := by
  show (win0_1.blk t0_0).view.read (Elt Ideal) (V m c main_arg4) = _
  rw [V_main_arg4]; exact read_ws c _

theorem off0_3 : (![0, 0, 0] : Fin 3 → ℕ) = fun _ => 0 := by decide
theorem off0_2 : (![0, 0] : Fin 2 → ℕ) = fun _ => 0 := by decide

/-- Widening a whole array copies its values. -/
theorem wide_xs (x0 : Vec Ideal S2x4096x448 .fp8e4m3) (x1 : Vec Ideal S2304x448 .fp8e4m3) (i : S2x4096x448.Idx) : out0_2 (F := Ideal) x0 x1 i = x0 i := by
  unfold out0_2
  rw [View.canon_unit_zero off0_3]
  exact congrFun (View.ld_unit_zero (Val := Elt Ideal) off0_3 inb_S2x4096x448_S2x4096x448_0_0_0 x0) i
theorem wide_ws (x0 : Vec Ideal S2x4096x448 .fp8e4m3) (x1 : Vec Ideal S2304x448 .fp8e4m3) (i : S2304x448.Idx) : out0_3 (F := Ideal) x0 x1 i = x1 i := by
  unfold out0_3
  rw [View.canon_unit_zero off0_2]
  exact congrFun (View.ld_unit_zero (Val := Elt Ideal) off0_2 inb_S2304x448_S2304x448_0_0 x1) i

/-- The activations' widened scales are the scales given. -/
theorem scales_x (i : S2x4096x448.Idx) : reg_main_v0_0 m c i = (m ((c : Thread nD τ).loc main_arg1) : S2x4096x448.Idx → EReal) i := by
  have hw : ((cfg0.win 2).blk t0_0).view.read (Elt Ideal) (reg_main_v0_0 m c) = (dats m 0 c).flushed 2 t0_0 := by
    unfold reg_main_v0_0
    rw [show cfg0.N = t0_0.val + 1 from rfl, (dats m 0 c).arrAt_succ (2 : Fin 4) t0_0, flush0_2, if_pos rfl]
    exact View.read_write_univ _ _
  have hf : (dats m 0 c).flushed 2 t0_0 = out0_2 (m ((c : Thread nD τ).loc main_arg1)) (m ((c : Thread nD τ).loc main_arg4)) := by
    show (cfg0.win 2).cut _ ((dats m 0 c).after 2 t0_0) = _
    rw [after0_2, block_xs, block_ws]
    exact funext fun _ => rfl
  rw [hf] at hw
  exact (congrFun ((read_xs_wide c _).symm.trans hw) i).trans (wide_xs _ _ i)

/-- The weights' widened scales are the scales given. -/
theorem scales_w (i : S2304x448.Idx) : reg_main_v0_1 m c i = (m ((c : Thread nD τ).loc main_arg4) : S2304x448.Idx → EReal) i := by
  have hw : ((cfg0.win 3).blk t0_0).view.read (Elt Ideal) (reg_main_v0_1 m c) = (dats m 0 c).flushed 3 t0_0 := by
    unfold reg_main_v0_1
    rw [show cfg0.N = t0_0.val + 1 from rfl, (dats m 0 c).arrAt_succ (3 : Fin 4) t0_0, flush0_3, if_pos rfl]
    exact View.read_write_univ _ _
  have hf : (dats m 0 c).flushed 3 t0_0 = out0_3 (m ((c : Thread nD τ).loc main_arg1)) (m ((c : Thread nD τ).loc main_arg4)) := by
    show (cfg0.win 3).cut _ ((dats m 0 c).after 3 t0_0) = _
    rw [after0_3, block_xs, block_ws]
    exact funext fun _ => rfl
  rw [hf] at hw
  exact (congrFun ((read_ws_wide c _).symm.trans hw) i).trans (wide_ws _ _ i)

end Cert.ReferenceIdeal.Gen
end
-- ==== Proof.Equal.lean ====
/-
  THE EQUATION. When the groups' starts are in order, the reference's result is the array the kernel leaves: both are the
  same scaled sum of products of decoded codes at every element.
-/
module

public import proofs.«01_k».proof.Defs
public import proofs.«01_k».proof.Proof.Array
public import proofs.«01_k».proof.Proof.Ref
public import proofs.«01_k».proof.Proof.RefScales

@[expose] public section
noncomputable section
namespace Cert.Nvfp4
open Idealize.ShloMosaic Idealize.ShloMosaic.StableHlo.Predicate Idealize.SL.Sem

/-- The precondition's slices are in range. -/
theorem pre_facts : Cert.Pre_sorted_starts.Facts := ⟨by decide, by decide⟩

/-- The precondition: each start is at most the next. -/
theorem starts_sorted [Cert.Pre_sorted_starts.Facts] (x0 : IVec Cert.Pre_sorted_starts.S2x4096x3584 8) (x1 : FVec Ideal Cert.Pre_sorted_starts.S2x4096x448 .fp8e4m3)
    (x2 : FVec Ideal Cert.Pre_sorted_starts.S4 .f32) (x3 : IVec Cert.Pre_sorted_starts.S2304x3584 8) (x4 : FVec Ideal Cert.Pre_sorted_starts.S2304x448 .fp8e4m3)
    (x5 : FVec Ideal Cert.Pre_sorted_starts.S1 .f32) (x6 : IVec Cert.Pre_sorted_starts.S4 32)
    (h : Cert.Pre_sorted_starts.fn x0 x1 x2 x3 x4 x5 x6 = fun _ => 1#1) (q : Fin 3) :
    (starts x6 q.castSucc).toInt ≤ (starts x6 q.succ).toInt := by
  have e := congrFun h (ValueIdx.ix1 q)
  have e' : IntOp.cmpi .sle (starts x6 q.castSucc) (starts x6 q.succ) = 1#1 := by
    refine Eq.trans ?_ e
    refine congrArg₂ (IntOp.cmpi .sle) (congrArg x6 (funext fun a => Fin.ext ?_)) (congrArg x6 (funext fun a => Fin.ext ?_))
    · match a with | ⟨0, _⟩ => show q.val = 0 + q.val; omega
    · match a with | ⟨0, _⟩ => show q.val + 1 = 1 + q.val; omega
  rw [WordCmp.cmpi_sle_eq] at e'
  by_contra hn
  rw [decide_eq_false hn] at e'
  exact absurd e' (by decide)

open Cert.ReferenceIdeal Cert.ReferenceIdeal.Gen Cert.ReferenceIdeal.Value Cert.ReferenceIdeal.Read in
/-- The reference's result, read at the exit of its first part, at row `r` and column `n`. -/
theorem reference_result (m : (ℓ : Loc nD τ sig) → Buf (Elt Ideal) ℓ) (c : Dev nD)
    (h : ∀ q : Fin 3, (starts (m (c.tc.loc main_arg6)) q.castSucc).toInt ≤ (starts (m (c.tc.loc main_arg6)) q.succ).toInt)
    (r : Fin 8192) (n : Fin 2304) :
    val_main_v156 (F := Ideal) (exitV m c (Proc.devRef .tc main_arg0)) (exitV m c (Proc.devRef .tc main_arg2)) (exitV m c (Proc.devRef .tc main_arg3))
        (exitV m c (Proc.devRef .tc main_arg5)) (exitV m c (Proc.devRef .tc main_arg6)) (exitV m c (Proc.devRef .tc main_v0_0)) (exitV m c (Proc.devRef .tc main_v0_1))
        (ValueIdx.ix2 r n)
      = linear (m (c.tc.loc main_arg0)) (m (c.tc.loc main_arg1)) (m (c.tc.loc main_arg3))
          (m (c.tc.loc main_arg4)) r n (m (c.tc.loc main_arg2)) (m (c.tc.loc main_arg5)) (m (c.tc.loc main_arg6)) := by
  rw [exit_main_arg0, exit_main_arg2, exit_main_arg3, exit_main_arg5, exit_main_arg6, exit_main_v0_0, exit_main_v0_1,
    show reg_main_v0_0 m c = (m (c.tc.loc main_arg1) : S2x4096x448.Idx → EReal) from funext (scales_x m c),
    show reg_main_v0_1 m c = (m (c.tc.loc main_arg4) : S2304x448.Idx → EReal) from funext (scales_w m c)]
  exact reference_at _ _ _ _ _ _ _ (h 0) (h 1) (h 2) r n

end Cert.Nvfp4
end
-- ==== Proof.lean ====
/-
  THE CERTIFICATE. The three programs run, keep their arguments and end at rest by the frames of their own runs; the kernel
  read over the extended reals is the kernel's own text; and with the groups' starts in order it leaves the array the
  reference computes.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Equal
public import Idealize.ShloMosaic.Adequacy
public import Idealize.ShloMosaic.Init

@[expose] public section

noncomputable section

namespace Cert.Proof

open Idealize.ShloMosaic Idealize.SL.Sem Cert.Nvfp4

attribute [local instance] pre_facts

/-- The kernel and the reference end with the same array. -/
theorem equal : Cert.algebraic_KernelIdeal_ReferenceIdeal_pre_sorted_starts := by
  intro m g m' g' hpre hargs
  refine ⟨fun c => Cert.KernelIdeal.Value.G7 m c, Cert.KernelIdeal.Value.run m g, (θ_run _ _ _).mono (fun r h c => ⟨?_, (h c).2⟩) (Cert.ReferenceIdeal.Value.run m' g')⟩
  obtain ⟨h0, h1, h2, h3, h4, h5, h6⟩ := hargs c
  refine (h c).1.trans ((Cert.ReferenceIdeal.Read.val_main_v156_eq (Cert.ReferenceIdeal.Value.exitV m' c)).trans (funext fun i => ?_))
  have hs := starts_sorted _ _ _ _ _ _ _ (hpre c)
  obtain ⟨r, n, rfl⟩ : ∃ (r : Fin 8192) (n : Fin 2304), i = ValueIdx.ix2 r n := ⟨i 0, i 1, idx2_ext rfl rfl⟩
  refine (reference_result m' c (by rw [h6]; exact hs) r n).trans ?_
  rw [h0, h1, h2, h3, h4, h5, h6]
  exact (Cert.KernelIdeal.Gen.array_at m c r n).symm

/-- Everything claimed. -/
theorem claim : Cert.Claim :=
  ⟨Cert.Kernel.Gen.facts, Cert.KernelIdeal.Gen.facts, Cert.ReferenceIdeal.Gen.facts, pre_facts,
    fun m g _ => Cert.Kernel.Gen.frame m g, fun m g _ => Cert.KernelIdeal.Gen.frame m g, fun m g _ => Cert.KernelIdeal.Gen.frame m g,
    fun m g _ => Cert.ReferenceIdeal.Gen.frame m g, fun m g _ => Cert.ReferenceIdeal.Gen.frame m g, trivial, equal⟩

end Cert.Proof

end
